-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S1024 : Shape := ⟨1, ![1024]⟩
abbrev S1x1024 : Shape := ⟨2, ![1, 1024]⟩
abbrev S3x256x1024 : Shape := ⟨3, ![3, 256, 1024]⟩
abbrev S6 : Shape := ⟨1, ![6]⟩
abbrev S_ : Shape := ⟨0, ![]⟩
abbrev S1 : Shape := ⟨1, ![1]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1x1024, .f32⟩
  | .hbm, ⟨5, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S3x256x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => false
  | ⟨1, _⟩ => true
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 2 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_18 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_17 : BitVec 32 := 16#32
  let v33 : BitVec 32 := Scalar.muli v2 c16_i32_17
  let v34 : BitVec 32 := Scalar.addi c0_i32_18 v33
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.addi v5 c4_i32_2
  let c1_i32_3 : BitVec 32 := 1#32
  let v10 : BitVec 32 := Scalar.subi v9 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c4_i32_19 : BitVec 32 := 4#32
  let v35 : BitVec 32 := Scalar.muli v20 c4_i32_19
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v37 : BitVec 32 := Scalar.muli v8 c1_i32_20
  let v38 : BitVec 32 := Scalar.addi v36 v37
  v38.toNat
def k0_dev2 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v39 : BitVec 32 := Scalar.muli v2 c16_i32_22
  let v40 : BitVec 32 := Scalar.addi c0_i32_23 v39
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_9 : BitVec 32 := 1#32
  let v21 : BitVec 32 := Scalar.addi v5 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_24 : BitVec 32 := 4#32
  let v41 : BitVec 32 := Scalar.muli v31 c4_i32_24
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v43 : BitVec 32 := Scalar.muli v8 c1_i32_25
  let v44 : BitVec 32 := Scalar.addi v42 v43
  v44.toNat
def k0_off1 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32 : BitVec 32 := 8#32
  let v45 : BitVec 32 := Scalar.addi v5 c8_i32
  let c0_i32_27 : BitVec 32 := 0#32
  let v46 : BitVec 32 := Scalar.subi v45 c0_i32_27
  let c1_i32_28 : BitVec 32 := 1#32
  let v47 : BitVec 32 := Scalar.subi v46 c1_i32_28
  let c4_i32_29 : BitVec 32 := 4#32
  let c0_i32_30 : BitVec 32 := 0#32
  let v48 : BitVec 1 := Scalar.cmpi .eq c4_i32_29 c0_i32_30
  let c1_i32_31 : BitVec 32 := 1#32
  let v49 : BitVec 32 := Scalar.select v48 c1_i32_31 c4_i32_29
  let v50 : BitVec 32 := Scalar.remsi v47 v49
  let c0_i32_33 : BitVec 32 := 0#32
  let v52 : BitVec 1 := Scalar.cmpi .slt v50 c0_i32_33
  let c0_i32_34 : BitVec 32 := 0#32
  let v53 : BitVec 1 := Scalar.cmpi .slt v49 c0_i32_34
  let v54 : BitVec 1 := Scalar.xori v52 v53
  let c0_i32_32 : BitVec 32 := 0#32
  let v51 : BitVec 1 := Scalar.cmpi .ne v50 c0_i32_32
  let v55 : BitVec 1 := Scalar.andi v54 v51
  let v56 : BitVec 32 := Scalar.addi v50 v49
  let v57 : BitVec 32 := Scalar.select v55 v56 v50
  let c256_i32 : BitVec 32 := 256#32
  let v71 : BitVec 32 := Scalar.muli v57 c256_i32
  let c0_i32_53 : BitVec 32 := 0#32
  ![v71.toNat, 0]
def k0_dev3 (d0 : Dev nD) : Nat :=
  let c0_i32_48 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_47 : BitVec 32 := 16#32
  let v72 : BitVec 32 := Scalar.muli v2 c16_i32_47
  let v73 : BitVec 32 := Scalar.addi c0_i32_48 v72
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_9 : BitVec 32 := 1#32
  let v21 : BitVec 32 := Scalar.addi v5 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_49 : BitVec 32 := 4#32
  let v74 : BitVec 32 := Scalar.muli v31 c4_i32_49
  let v75 : BitVec 32 := Scalar.addi v73 v74
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_50 : BitVec 32 := 1#32
  let v76 : BitVec 32 := Scalar.muli v8 c1_i32_50
  let v77 : BitVec 32 := Scalar.addi v75 v76
  v77.toNat
def k0_off2 (d0 : Dev nD) (c0_i32_36 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_35 : BitVec 32 := 8#32
  let v58 : BitVec 32 := Scalar.addi v5 c8_i32_35
  let v59 : BitVec 32 := Scalar.subi v58 c0_i32_36
  let c2_i32_37 : BitVec 32 := 2#32
  let v60 : BitVec 32 := Scalar.subi v59 c2_i32_37
  let c4_i32_38 : BitVec 32 := 4#32
  let c0_i32_39 : BitVec 32 := 0#32
  let v61 : BitVec 1 := Scalar.cmpi .eq c4_i32_38 c0_i32_39
  let c1_i32_40 : BitVec 32 := 1#32
  let v62 : BitVec 32 := Scalar.select v61 c1_i32_40 c4_i32_38
  let v63 : BitVec 32 := Scalar.remsi v60 v62
  let c0_i32_42 : BitVec 32 := 0#32
  let v65 : BitVec 1 := Scalar.cmpi .slt v63 c0_i32_42
  let c0_i32_43 : BitVec 32 := 0#32
  let v66 : BitVec 1 := Scalar.cmpi .slt v62 c0_i32_43
  let v67 : BitVec 1 := Scalar.xori v65 v66
  let c0_i32_41 : BitVec 32 := 0#32
  let v64 : BitVec 1 := Scalar.cmpi .ne v63 c0_i32_41
  let v68 : BitVec 1 := Scalar.andi v67 v64
  let v69 : BitVec 32 := Scalar.addi v63 v62
  let v70 : BitVec 32 := Scalar.select v68 v69 v63
  let c256_i32_73 : BitVec 32 := 256#32
  let v103 : BitVec 32 := Scalar.muli v70 c256_i32_73
  let v104 : Index := Scalar.indexCast v103
  let c0_74 : Index := 0#32
  ![v104.toNat, 0]
def k0_dev4 (d0 : Dev nD) : Nat :=
  let c0_i32_92 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_91 : BitVec 32 := 16#32
  let v124 : BitVec 32 := Scalar.muli v2 c16_i32_91
  let v125 : BitVec 32 := Scalar.addi c0_i32_92 v124
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_9 : BitVec 32 := 1#32
  let v21 : BitVec 32 := Scalar.addi v5 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_93 : BitVec 32 := 4#32
  let v126 : BitVec 32 := Scalar.muli v31 c4_i32_93
  let v127 : BitVec 32 := Scalar.addi v125 v126
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v128 : BitVec 32 := Scalar.muli v8 c1_i32_94
  let v129 : BitVec 32 := Scalar.addi v127 v128
  v129.toNat
def k0_dev5 (d0 : Dev nD) : Nat :=
  let c0_i32_141 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_140 : BitVec 32 := 16#32
  let v179 : BitVec 32 := Scalar.muli v2 c16_i32_140
  let v180 : BitVec 32 := Scalar.addi c0_i32_141 v179
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_9 : BitVec 32 := 1#32
  let v21 : BitVec 32 := Scalar.addi v5 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_142 : BitVec 32 := 4#32
  let v181 : BitVec 32 := Scalar.muli v31 c4_i32_142
  let v182 : BitVec 32 := Scalar.addi v180 v181
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_143 : BitVec 32 := 1#32
  let v183 : BitVec 32 := Scalar.muli v8 c1_i32_143
  let v184 : BitVec 32 := Scalar.addi v182 v183
  v184.toNat
def k0_off3 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c256_i32_179 : BitVec 32 := 256#32
  let v223 : BitVec 32 := Scalar.muli v5 c256_i32_179
  let v224 : Index := Scalar.indexCast v223
  let c0_180 : Index := 0#32
  ![v224.toNat, 0]
def k0_off4 (d0 : Dev nD) (c0_i32_188 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_187 : BitVec 32 := 4#32
  let v245 : BitVec 32 := Scalar.addi v5 c4_i32_187
  let v246 : BitVec 32 := Scalar.subi v245 c0_i32_188
  let c4_i32_189 : BitVec 32 := 4#32
  let c0_i32_190 : BitVec 32 := 0#32
  let v247 : BitVec 1 := Scalar.cmpi .eq c4_i32_189 c0_i32_190
  let c1_i32_191 : BitVec 32 := 1#32
  let v248 : BitVec 32 := Scalar.select v247 c1_i32_191 c4_i32_189
  let v249 : BitVec 32 := Scalar.remsi v246 v248
  let c0_i32_193 : BitVec 32 := 0#32
  let v251 : BitVec 1 := Scalar.cmpi .slt v249 c0_i32_193
  let c0_i32_194 : BitVec 32 := 0#32
  let v252 : BitVec 1 := Scalar.cmpi .slt v248 c0_i32_194
  let v253 : BitVec 1 := Scalar.xori v251 v252
  let c0_i32_192 : BitVec 32 := 0#32
  let v250 : BitVec 1 := Scalar.cmpi .ne v249 c0_i32_192
  let v254 : BitVec 1 := Scalar.andi v253 v250
  let v255 : BitVec 32 := Scalar.addi v249 v248
  let v256 : BitVec 32 := Scalar.select v254 v255 v249
  let c256_i32_196 : BitVec 32 := 256#32
  let v258 : BitVec 32 := Scalar.muli v256 c256_i32_196
  let c0_i32_202 : BitVec 32 := 0#32
  ![v258.toNat, 0]
def k0_dev6 (d0 : Dev nD) : Nat :=
  let c0_i32_199 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_198 : BitVec 32 := 16#32
  let v259 : BitVec 32 := Scalar.muli v2 c16_i32_198
  let v260 : BitVec 32 := Scalar.addi c0_i32_199 v259
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_9 : BitVec 32 := 1#32
  let v21 : BitVec 32 := Scalar.addi v5 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_200 : BitVec 32 := 4#32
  let v261 : BitVec 32 := Scalar.muli v31 c4_i32_200
  let v262 : BitVec 32 := Scalar.addi v260 v261
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_201 : BitVec 32 := 1#32
  let v263 : BitVec 32 := Scalar.muli v8 c1_i32_201
  let v264 : BitVec 32 := Scalar.addi v262 v263
  v264.toNat
def k0_dev7 (d0 : Dev nD) : Nat :=
  let c0_i32_230 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_229 : BitVec 32 := 16#32
  let v299 : BitVec 32 := Scalar.muli v2 c16_i32_229
  let v300 : BitVec 32 := Scalar.addi c0_i32_230 v299
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_9 : BitVec 32 := 1#32
  let v21 : BitVec 32 := Scalar.addi v5 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_231 : BitVec 32 := 4#32
  let v301 : BitVec 32 := Scalar.muli v31 c4_i32_231
  let v302 : BitVec 32 := Scalar.addi v300 v301
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_232 : BitVec 32 := 1#32
  let v303 : BitVec 32 := Scalar.muli v8 c1_i32_232
  let v304 : BitVec 32 := Scalar.addi v302 v303
  v304.toNat
def k0_dev8 (d0 : Dev nD) : Nat :=
  let c0_i32_260 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_259 : BitVec 32 := 16#32
  let v339 : BitVec 32 := Scalar.muli v2 c16_i32_259
  let v340 : BitVec 32 := Scalar.addi c0_i32_260 v339
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_9 : BitVec 32 := 1#32
  let v21 : BitVec 32 := Scalar.addi v5 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_261 : BitVec 32 := 4#32
  let v341 : BitVec 32 := Scalar.muli v31 c4_i32_261
  let v342 : BitVec 32 := Scalar.addi v340 v341
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_262 : BitVec 32 := 1#32
  let v343 : BitVec 32 := Scalar.muli v8 c1_i32_262
  let v344 : BitVec 32 := Scalar.addi v342 v343
  v344.toNat
def k0_dev9 (d0 : Dev nD) : Nat :=
  let c0_i32_280_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_279_r0 : BitVec 32 := 16#32
  let v366_r0 : BitVec 32 := Scalar.muli v2 c16_i32_279_r0
  let v367_r0 : BitVec 32 := Scalar.addi c0_i32_280_r0 v366_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.addi v5 c4_i32_2
  let c1_i32_3 : BitVec 32 := 1#32
  let v10 : BitVec 32 := Scalar.subi v9 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c4_i32_281_r0 : BitVec 32 := 4#32
  let v368_r0 : BitVec 32 := Scalar.muli v20 c4_i32_281_r0
  let v369_r0 : BitVec 32 := Scalar.addi v367_r0 v368_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_282_r0 : BitVec 32 := 1#32
  let v370_r0 : BitVec 32 := Scalar.muli v8 c1_i32_282_r0
  let v371_r0 : BitVec 32 := Scalar.addi v369_r0 v370_r0
  v371_r0.toNat
def k0_dev10 (d0 : Dev nD) : Nat :=
  let c0_i32_285_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_284_r0 : BitVec 32 := 16#32
  let v372_r0 : BitVec 32 := Scalar.muli v2 c16_i32_284_r0
  let v373_r0 : BitVec 32 := Scalar.addi c0_i32_285_r0 v372_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_9 : BitVec 32 := 1#32
  let v21 : BitVec 32 := Scalar.addi v5 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_286_r0 : BitVec 32 := 4#32
  let v374_r0 : BitVec 32 := Scalar.muli v31 c4_i32_286_r0
  let v375_r0 : BitVec 32 := Scalar.addi v373_r0 v374_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_287_r0 : BitVec 32 := 1#32
  let v376_r0 : BitVec 32 := Scalar.muli v8 c1_i32_287_r0
  let v377_r0 : BitVec 32 := Scalar.addi v375_r0 v376_r0
  v377_r0.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x1024x1024 : Shape := ⟨3, ![4, 1024, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S1024x1024, .f32⟩
  | .hbm, ⟨2, _⟩ => ⟨S1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x1024, .f32⟩
  | .hbm, ⟨18, _⟩ => ⟨S1024x1024, .f32⟩
  | .hbm, ⟨19, _⟩ => ⟨S1x1024, .f32⟩
  | .hbm, ⟨20, _⟩ => ⟨S1024x1024, .f32⟩
  | .hbm, ⟨21, _⟩ => ⟨S1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Ring.lean ====
/- The ring's geometry: which device is whose neighbour, which rows of an array each step touches, and the views the
   kernel addresses, each by one name. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Value

@[expose] public section

noncomputable section

namespace Cert.RingNorm

open Idealize.ShloMosaic Idealize.SL.Sem Cert.KernelIdeal Cert.KernelIdeal.Gen

/-! ## Devices -/

/-- A device's coordinate along the ring's axis. -/
def pos (c : Dev nD) : Fin 4 := ⟨(c.val / 4) % 4, Nat.mod_lt _ (by decide)⟩

/-- The device of `c`'s ring at coordinate `q`. -/
def mate (c : Dev nD) (q : Fin 4) : Dev nD := ⟨16 * (c.val / 16) + 4 * q.val + c.val % 4, by
  have h := c.isLt; have hq := q.isLt; show _ < 32; have : c.val < 32 := h; omega⟩

/-- The next device of the ring. -/
abbrev right (c : Dev nD) : Dev nD := mate c (pos c + 1)
/-- The previous one. -/
abbrev left (c : Dev nD) : Dev nD := mate c (pos c + 3)

theorem pos_mate : ∀ (c : Dev nD) (q : Fin 4), pos (mate c q) = q := by decide +kernel
theorem mate_mate : ∀ (c : Dev nD) (q r : Fin 4), mate (mate c q) r = mate c r := by decide +kernel
theorem mate_pos : ∀ c : Dev nD, mate c (pos c) = c := by decide +kernel
theorem left_right : ∀ c : Dev nD, left (right c) = c := by decide +kernel
theorem right_left : ∀ c : Dev nD, right (left c) = c := by decide +kernel
theorem left_ne_right : ∀ c : Dev nD, left c ≠ right c := by decide +kernel
theorem pos_right (c : Dev nD) : pos (right c) = pos c + 1 := pos_mate _ _
theorem pos_left (c : Dev nD) : pos (left c) = pos c + 3 := pos_mate _ _

/-- Going right, as a permutation of the devices. -/
def turn : Dev nD ≃ Dev nD := ⟨fun c => right c, fun c => left c, left_right, right_left⟩

theorem dev1 : ∀ c : Dev nD, (⟨k0_dev1 c, k0_dev1_lt c⟩ : Dev nD) = left c := by decide +kernel
theorem dev2 : ∀ c : Dev nD, (⟨k0_dev2 c, k0_dev2_lt c⟩ : Dev nD) = right c := by decide +kernel
theorem dev3 : ∀ c : Dev nD, (⟨k0_dev3 c, k0_dev3_lt c⟩ : Dev nD) = right c := by decide +kernel
theorem dev4 : ∀ c : Dev nD, (⟨k0_dev4 c, k0_dev4_lt c⟩ : Dev nD) = right c := by decide +kernel
theorem dev5 : ∀ c : Dev nD, (⟨k0_dev5 c, k0_dev5_lt c⟩ : Dev nD) = right c := by decide +kernel
theorem dev6 : ∀ c : Dev nD, (⟨k0_dev6 c, k0_dev6_lt c⟩ : Dev nD) = right c := by decide +kernel
theorem dev7 : ∀ c : Dev nD, (⟨k0_dev7 c, k0_dev7_lt c⟩ : Dev nD) = right c := by decide +kernel
theorem dev8 : ∀ c : Dev nD, (⟨k0_dev8 c, k0_dev8_lt c⟩ : Dev nD) = right c := by decide +kernel
theorem dev9 : ∀ c : Dev nD, (⟨k0_dev9 c, k0_dev9_lt c⟩ : Dev nD) = left c := by decide +kernel
theorem dev10 : ∀ c : Dev nD, (⟨k0_dev10 c, k0_dev10_lt c⟩ : Dev nD) = right c := by decide +kernel

/-! ## Rows -/

/-- Where chunk `q` of a 1024-row array begins. -/
def rowAt (q : Fin 4) : Fin 2 → ℕ := ![256 * q.val, 0]
theorem rowAt_inb : ∀ (q : Fin 4) (a : Fin 2), rowAt q a + S256x1024.size a ≤ S1024x1024.size a := by decide +kernel

theorem off1 : ∀ c : Dev nD, k0_off1 c = rowAt (pos c + 3) := by decide +kernel
theorem off2_0 : ∀ c : Dev nD, k0_off2 c 0#32 = rowAt (pos c + 2) := by decide +kernel
theorem off2_1 : ∀ c : Dev nD, k0_off2 c 1#32 = rowAt (pos c + 1) := by decide +kernel
theorem off2_2 : ∀ c : Dev nD, k0_off2 c 2#32 = rowAt (pos c) := by decide +kernel
theorem off3 : ∀ c : Dev nD, k0_off3 c = rowAt (pos c) := by decide +kernel
theorem off4_0 : ∀ c : Dev nD, k0_off4 c 0#32 = rowAt (pos c) := by decide +kernel
theorem off4_1 : ∀ c : Dev nD, k0_off4 c 1#32 = rowAt (pos c + 3) := by decide +kernel
theorem off4_2 : ∀ c : Dev nD, k0_off4 c 2#32 = rowAt (pos c + 2) := by decide +kernel

/-- Rows `256 q … 256 q + 255`. -/
abbrev rows (q : Fin 4) : Rect S1024x1024 := Rect.unit (s := S1024x1024) (rowAt q) S256x1024.size (rowAt_inb q)

/-- Chunk `q` of an array of 1024 rows. -/
def chunk {α : Type} (X : S1024x1024.Idx → α) (q : Fin 4) : S256x1024.Idx → α := fun i => X ((rows q).emb i)

/-- The array of 1024 rows whose chunks are given. -/
def glue {α : Type} (Y : Fin 4 → S256x1024.Idx → α) : S1024x1024.Idx → α :=
  fun i => Y ⟨(i 0).val / 256, Nat.div_lt_of_lt_mul (i 0).isLt⟩
    (fun | 0 => ⟨(i 0).val % 256, Nat.mod_lt _ (by decide)⟩ | 1 => i 1)

theorem chunk_glue {α : Type} (Y : Fin 4 → S256x1024.Idx → α) (q : Fin 4) : chunk (glue Y) q = Y q := by
  funext i
  have h0 : (((rows q).emb i) 0).val = 256 * q.val + (i 0).val := by
    show 256 * q.val + 1 * (i 0).val = _; omega
  have h1 : (((rows q).emb i) 1).val = (i 1).val := by
    show 0 + 1 * (i 1).val = _; omega
  have hi : (i 0).val < 256 := (i 0).isLt
  unfold chunk glue
  have e : (⟨(((rows q).emb i) 0).val / 256, Nat.div_lt_of_lt_mul (((rows q).emb i) 0).isLt⟩ : Fin 4) = q :=
    Fin.ext (by show (((rows q).emb i) 0).val / 256 = _; rw [h0]; omega)
  rw [e]
  refine congrArg _ (funext fun a => ?_)
  match a with
  | 0 => exact Fin.ext (by show (((rows q).emb i) 0).val % 256 = _; rw [h0]; omega)
  | 1 => exact Fin.ext h1

theorem glue_chunk {α : Type} (X : S1024x1024.Idx → α) : glue (chunk X) = X := by
  funext i
  unfold chunk glue
  refine congrArg X (funext fun a => ?_)
  match a with
  | 0 => exact Fin.ext (by show 256 * ((i 0).val / 256) + 1 * ((i 0).val % 256) = _; omega)
  | 1 => exact Fin.ext (by show 0 + 1 * (i 1).val = _; omega)

/-! ## Views -/

/-- Chunk `q` of a memref of 1024 rows. -/
abbrev part (M : Memref sig .tc .vmem S1024x1024 .f32) (q : Fin 4) : Memref sig .tc .vmem S256x1024 .f32 :=
  M.slice (rows q) (fun _ => rfl)

theorem part_of {M : Memref sig .tc .vmem S1024x1024 .f32} {off : Fin 2 → ℕ} {q : Fin 4} (h : off = rowAt q)
    (inb : ∀ a, off a + S256x1024.size a ≤ S1024x1024.size a) :
    (M.slice (Rect.unit (s := S1024x1024) off S256x1024.size inb) (fun _ => rfl) : Memref sig .tc .vmem S256x1024 .f32) = part M q := by
  subst h; rfl

/-- The staged inputs `p` and `resid`, the staged `gamma` and the staged output. -/
abbrev pM : Memref sig .tc .vmem S1024x1024 .f32 := stage0_0 0
abbrev rM : Memref sig .tc .vmem S1024x1024 .f32 := stage0_1 0
abbrev gM : Memref sig .tc .vmem S1x1024 .f32 := stage0_2 0
abbrev oM : Memref sig .tc .vmem S1024x1024 .f32 := stage0_3 0
/-- The receive slots. -/
abbrev bM : Memref sig .tc .vmem S3x256x1024 .f32 := Memref.whole cc0_scratch0

/-- Where receive slot `s` begins. -/
theorem slot_inb : ∀ (s : Fin 3) (a : Fin 3), (![s.val, 0, 0] : Fin 3 → ℕ) a + S1x256x1024.size a ≤ S3x256x1024.size a := by decide
abbrev slotRect (s : Fin 3) : Rect S3x256x1024 := Rect.unit (s := S3x256x1024) ![s.val, 0, 0] S1x256x1024.size (slot_inb s)
/-- Receive slot `s`. -/
abbrev slot (s : Fin 3) : Memref sig .tc .vmem S256x1024 .f32 :=
  (bM.slice (slotRect s) (fun _ => rfl)).squeeze S256x1024 squeezes_S1x256x1024_S256x1024

/-! ## Semaphores -/

/-- The semaphore both neighbours raise before the ring starts, and the one they raise after it. -/
abbrev bar1 : Sem sig := 0
abbrev bar2 : Sem sig := 1
/-- The semaphores of step `s`: the copy has left, the copy has landed. -/
def sendS (s : Fin 6) : DmaSem sig := ⟨4 + s.val, by have := s.isLt; show _ < 16; omega⟩
def recvS (s : Fin 6) : DmaSem sig := ⟨10 + s.val, by have := s.isLt; show _ < 16; omega⟩

theorem sem_send {s : Fin 6} (inb : ∀ a, (![s.val] : Fin 1 → Nat) a + S1.size a ≤ S6.size a) :
    ((cc0_scratch1.slice (Rect.unit (s := S6) ![s.val] S1.size inb)).squeeze S_ squeezes_S1_S_).sem = sendS s := by
  revert inb; revert s; decide +kernel
theorem sem_recv {s : Fin 6} (inb : ∀ a, (![s.val] : Fin 1 → Nat) a + S1.size a ≤ S6.size a) :
    ((cc0_scratch2.slice (Rect.unit (s := S6) ![s.val] S1.size inb)).squeeze S_ squeezes_S1_S_).sem = recvS s := by
  revert inb; revert s; decide +kernel
theorem sem_bar1 : (SemArray.scalar (sig.barrier 0 rfl) : Sems sig S_).sem = bar1 := rfl
theorem sem_bar2 : cc0_scoped0.sem = bar2 := by decide +kernel

/-! ## Credits -/

/-- What a copy of one chunk credits. -/
abbrev N : ℕ := (slot 0).view.dmaCredit
theorem N_pos : 0 < N := View.dmaCredit_pos _ (by decide)
theorem N_slot (s : Fin 3) : (slot s).view.dmaCredit = N := rfl
theorem N_p (q : Fin 4) : (part pM q).view.dmaCredit = N := rfl
theorem N_o (q : Fin 4) : (part oM q).view.dmaCredit = N := rfl

end Cert.RingNorm
-- ==== Proof.Contents.lean ====
/- What the ring's steps carry, as plain functions of every device's inputs. -/
module

public import proofs.«01_k».proof.Proof.Ring

@[expose] public section

noncomputable section

namespace Cert.RingNorm

open Idealize.ShloMosaic Idealize.SL.Sem Cert.KernelIdeal Cert.KernelIdeal.Gen

variable {F : FTy → Type} [FloatOps F]

/-- Every device's three inputs as the kernel sees them. -/
structure Data (F : FTy → Type) where
  P : Dev nD → Vec F S1024x1024 .f32
  R : Dev nD → Vec F S1024x1024 .f32
  G : Dev nD → Vec F S1x1024 .f32

variable (D : Data F)

/-- The chunk a device receives first: its left neighbour's. -/
def raw0 (c : Dev nD) : Vec F S256x1024 .f32 := chunk (D.P (left c)) (pos c + 2)
/-- A device's partial sum after one, two and three additions. -/
def acc0 (c : Dev nD) : Vec F S256x1024 .f32 := addf (raw0 D c) (chunk (D.P c) (pos c + 2))
/-- The sum of three members' chunks, as sent on in the third step. -/
def acc1 (c : Dev nD) : Vec F S256x1024 .f32 := addf (acc0 D (left c)) (chunk (D.P c) (pos c + 1))
/-- The sum of all four members' chunks. -/
def acc2 (c : Dev nD) : Vec F S256x1024 .f32 := addf (acc1 D (left c)) (chunk (D.P c) (pos c))

/-- The chunk of the result a device computes itself. -/
def own (c : Dev nD) : Vec F S256x1024 .f32 :=
  k0_pay5 (shapeCast S1x256x1024 (acc2 D c) shapeCasts_S256x1024_S1x256x1024) (chunk (D.R c) (pos c)) (D.G c)

/-- Chunk `q` of the result on device `c`'s ring: what the device at coordinate `q` computes. -/
def fin (c : Dev nD) (q : Fin 4) : Vec F S256x1024 .f32 := own D (mate c q)

/-- The result on device `c`'s ring. -/
def out (c : Dev nD) : Vec F S1024x1024 .f32 := glue (fin D c)

/-- All members of a ring end with the same chunks. -/
theorem fin_mate (c : Dev nD) (q r : Fin 4) : fin D (mate c q) r = fin D c r := by
  unfold fin; rw [mate_mate]
/-- A device's own chunk is the one it normalised. -/
theorem fin_pos (c : Dev nD) : fin D c (pos c) = own D c := by unfold fin; rw [mate_pos]
/-- A chunk of the result. -/
theorem chunk_out (c : Dev nD) (q : Fin 4) : chunk (out D c) q = fin D c q := chunk_glue _ _

/-! ## The six copies of one device -/

/-- What copy `s` of device `c` reads from, and what is there. -/
def srcM (c : Dev nD) : Fin 6 → Memref sig .tc .vmem S256x1024 .f32
  | 0 => part pM (pos c + 3) | 1 => slot 0 | 2 => slot 1
  | 3 => part oM (pos c) | 4 => part oM (pos c + 3) | 5 => part oM (pos c + 2)
/-- What each of the six copies carries, at its sender. -/
def srcX (c : Dev nD) : Fin 6 → Vec F S256x1024 .f32
  | 0 => chunk (D.P c) (pos c + 3) | 1 => acc0 D c | 2 => acc1 D c
  | 3 => fin D c (pos c) | 4 => fin D c (pos c + 3) | 5 => fin D c (pos c + 2)

/-- Where the copy `s` that device `c` receives lands, and what it brings. -/
def dstM (c : Dev nD) : Fin 6 → Memref sig .tc .vmem S256x1024 .f32
  | 0 => slot 0 | 1 => slot 1 | 2 => slot 2
  | 3 => part oM (pos c + 3) | 4 => part oM (pos c + 2) | 5 => part oM (pos c + 1)
/-- What each of the six copies leaves, at its receiver. -/
def dstX (c : Dev nD) : Fin 6 → Vec F S256x1024 .f32
  | 0 => raw0 D c | 1 => acc0 D (left c) | 2 => acc1 D (left c)
  | 3 => fin D c (pos c + 3) | 4 => fin D c (pos c + 2) | 5 => fin D c (pos c + 1)

theorem add31 : ∀ q : Fin 4, q + 1 + 3 = q := by decide
theorem add22 : ∀ q : Fin 4, q + 1 + 2 = q + 3 := by decide
theorem add11 : ∀ q : Fin 4, q + 1 + 1 = q + 2 := by decide

/-- What the right neighbour receives is what a device sends. -/
theorem dstX_right (c : Dev nD) (s : Fin 6) : dstX D (right c) s = srcX D c s := by
  match s with
  | 0 => show raw0 D (right c) = _; unfold raw0; rw [left_right, pos_right, add22]; rfl
  | 1 => show acc0 D (left (right c)) = _; rw [left_right]; rfl
  | 2 => show acc1 D (left (right c)) = _; rw [left_right]; rfl
  | 3 => show fin D (right c) (pos (right c) + 3) = _; rw [pos_right, add31, fin_mate]; rfl
  | 4 => show fin D (right c) (pos (right c) + 2) = _; rw [pos_right, add22, fin_mate]; rfl
  | 5 => show fin D (right c) (pos (right c) + 1) = _; rw [pos_right, add11, fin_mate]; rfl

/-- Each copy counts the bytes of one chunk at its source. -/
theorem N_src (c : Dev nD) (s : Fin 6) : (srcM c s).view.dmaCredit = N := by
  match s with
  | 0 => rfl | 1 => rfl | 2 => rfl | 3 => rfl | 4 => rfl | 5 => rfl
/-- Each copy counts the bytes of one chunk at its target. -/
theorem N_dst (c : Dev nD) (s : Fin 6) : (dstM c s).view.dmaCredit = N := by
  match s with
  | 0 => rfl | 1 => rfl | 2 => rfl | 3 => rfl | 4 => rfl | 5 => rfl

end Cert.RingNorm
-- ==== Proof.Schedule.lean ====
/- Who raises which semaphore by how much, and what the raise hands over. -/
module

public import proofs.«01_k».proof.Proof.Contents
public import Idealize.ShloMosaic.Lib.Rounds
public import Idealize.ShloMosaic.Lib.Tactic

@[expose] public section

noncomputable section

namespace Cert.RingNorm

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The staged copies' ghost state beside the ring's: two duties to a round, one for each neighbour. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (D : Data F)

/-! ## Cells -/

abbrev b1Cell (c : Dev nD) : GSem nD τ sig := ((c : Thread nD τ), .reg bar1)
abbrev b2Cell (c : Dev nD) : GSem nD τ sig := ((c : Thread nD τ), .reg bar2)
abbrev sendCell (c : Dev nD) (s : Fin 6) : GSem nD τ sig := ((c : Thread nD τ), .dma (sendS s))
abbrev recvCell (c : Dev nD) (s : Fin 6) : GSem nD τ sig := ((c : Thread nD τ), .dma (recvS s))

/-! ## What is held -/

/-- Device `c` holds the elements under `M`, which read `X`. -/
def holds (c : Dev nD) (M : Memref sig .tc .vmem S256x1024 .f32) (X : Vec F S256x1024 .f32) : sProp 𝕄 :=
  iprop(∃ f : Buf (Elt F) (M.view.loc (c : Thread nD τ)), ⌜M.view.read (Elt F) f = X⌝
    ∗ (M.view.loc (c : Thread nD τ) ↦[M.view.set]{fullShare} f))

/-- The same, whatever they read. -/
def some' (c : Dev nD) (M : Memref sig .tc .vmem S256x1024 .f32) : sProp 𝕄 :=
  iprop(∃ f : Buf (Elt F) (M.view.loc (c : Thread nD τ)), (M.view.loc (c : Thread nD τ) ↦[M.view.set]{fullShare} f))

theorem holds_some (c : Dev nD) (M : Memref sig .tc .vmem S256x1024 .f32) (X : Vec F S256x1024 .f32) :
    holds c M X ⊢ (some' c M : sProp 𝕄) := by
  unfold holds some'
  iintro ⟨%f, -, H⟩; iexists f; iexact H

/-! ## The payloads -/

/-- What the right neighbour's first raise lends device `c`: the six places its copies land in there, whatever
    they read, and that the landings' semaphores are in use. -/
def lend (c : Dev nD) : sProp 𝕄 :=
  bigSep Finset.univ fun s : Fin 6 => iprop(some' (right c) (dstM (right c) s) ∗ reached ER (recvCell (right c) s) 0)

/-- Both neighbours have their second barrier in use. -/
def near (c : Dev nD) : sProp 𝕄 := iprop(reached ER (b2Cell (right c)) 0 ∗ reached ER (b2Cell (left c)) 0)

/-- What a copy's leaving gives back to its sender. -/
abbrev sentPay (c : Dev nD) (s : Fin 6) : sProp 𝕄 := holds c (srcM c s) (srcX D c s)
/-- What a copy's landing gives its receiver. -/
abbrev landPay (c : Dev nD) (s : Fin 6) : sProp 𝕄 := holds c (dstM c s) (dstX D c s)

/-- One round. A barrier is raised once by each neighbour, by one unit; a copy raises its two semaphores by its size. -/
def ring : Rounds.Schedule (GSem nD τ sig) Bool 𝕄 where
  duties g r := if r = 0 ∧ g.1.2 = .tc then (match g.2 with
    | .reg _ => Finset.univ
    | .dma j => if 4 ≤ j.val then {false} else ∅) else ∅
  unitless _ := False
  amount g _ _ := match g.2 with | .reg _ => 1 | .dma _ => N
  payload g _ d := match g.2 with
    | .reg j => if j = bar1 then (if d = false then iprop(lend g.1.1 ∗ reached ER (b2Cell (right g.1.1)) 0) else reached ER (b2Cell (left g.1.1)) 0) else iprop(emp)
    | .dma j => if h : 10 ≤ j.val then landPay D g.1.1 ⟨j.val - 10, by have := j.isLt; have : j.val < 16 := this; omega⟩
        else if h : 4 ≤ j.val then sentPay D g.1.1 ⟨j.val - 4, by omega⟩ else iprop(emp)
  amount_pos g _ _ _ := by
    match g with
    | (_, .reg _) => exact Nat.one_pos
    | (_, .dma _) => exact N_pos

instance ring_payload_storable (g : GSem nD τ sig) (r : ℕ) (d : Bool) :
    BI.Storable (upEmb : UEmb _ 𝕄) ((ring (F := F) D).payload g r d) := by
  obtain ⟨t, sm⟩ := g
  cases sm with
  | reg j =>
    show BI.Storable upEmb (if j = bar1 then (if d = false then iprop(lend t.1 ∗ reached ER (b2Cell (right t.1)) 0) else reached ER (b2Cell (left t.1)) 0) else iprop(emp))
    unfold lend some'
    (repeat' split) <;> infer_instance
  | dma j =>
    show BI.Storable upEmb (if h : 10 ≤ j.val then landPay D t.1 ⟨j.val - 10, by have := j.isLt; have : j.val < 16 := this; omega⟩
        else if h : 4 ≤ j.val then sentPay D t.1 ⟨j.val - 4, by omega⟩ else iprop(emp))
    unfold landPay sentPay holds
    (repeat' split) <;> infer_instance

section Tables

variable (c : Dev nD) (s : Fin 6)

theorem duties_b1 : (ring D).duties (b1Cell c) 0 = Finset.univ := by dsimp only [ring]; exact if_pos ⟨rfl, rfl⟩
theorem duties_b2 : (ring D).duties (b2Cell c) 0 = Finset.univ := by dsimp only [ring]; exact if_pos ⟨rfl, rfl⟩
theorem duties_send : (ring D).duties (sendCell c s) 0 = {false} := by
  dsimp only [ring]; exact (if_pos ⟨rfl, rfl⟩).trans (if_pos (Nat.le_add_right 4 _))
theorem duties_recv : (ring D).duties (recvCell c s) 0 = {false} := by
  dsimp only [ring]; exact (if_pos ⟨rfl, rfl⟩).trans (if_pos (by show 4 ≤ 10 + s.val; omega))
theorem duties_later (g : GSem nD τ sig) : ∀ r, 1 ≤ r → (ring D).duties g r = ∅ :=
  fun r hr => by dsimp only [ring]; exact if_neg (fun h => by have := h.1; omega)

theorem payload_b1_false : (ring D).payload (b1Cell c) 0 false = iprop(lend c ∗ reached ER (b2Cell (right c)) 0) := by
  dsimp only [ring]; exact (if_pos rfl).trans (if_pos rfl)
theorem payload_b1_true : (ring D).payload (b1Cell c) 0 true = (reached ER (b2Cell (left c)) 0 : sProp 𝕄) := by
  dsimp only [ring]; exact (if_pos rfl).trans (if_neg (fun h => by cases h))
theorem payload_b2 (d : Bool) : (ring D).payload (b2Cell c) 0 d = (iprop(emp) : sProp 𝕄) := by
  dsimp only [ring]; exact if_neg (by decide)
theorem payload_send (d : Bool) : (ring D).payload (sendCell c s) 0 d = sentPay D c s := by
  have hs := s.isLt
  have h1 : ¬10 ≤ (sendS s).val := by show ¬10 ≤ 4 + s.val; omega
  have h2 : 4 ≤ (sendS s).val := Nat.le_add_right 4 _
  dsimp only [ring]; refine (dif_neg h1).trans ((dif_pos h2).trans ?_)
  have e : (⟨(sendS s).val - 4, by show 4 + s.val - 4 < 6; omega⟩ : Fin 6) = s := Fin.ext (by show 4 + s.val - 4 = _; omega)
  rw [e]
theorem payload_recv (d : Bool) : (ring D).payload (recvCell c s) 0 d = landPay D c s := by
  have hs := s.isLt
  have h1 : 10 ≤ (recvS s).val := Nat.le_add_right 10 _
  dsimp only [ring]; refine (dif_pos h1).trans ?_
  have e : (⟨(recvS s).val - 10, by show 10 + s.val - 10 < 6; omega⟩ : Fin 6) = s := Fin.ext (by show 10 + s.val - 10 = _; omega)
  rw [e]

theorem expect_b1 : (ring D).expect (b1Cell c) 0 = 2 := by
  unfold Schedule.expect Schedule.amountOf; rw [duties_b1]; rfl
theorem expect_b2 : (ring D).expect (b2Cell c) 0 = 2 := by
  unfold Schedule.expect Schedule.amountOf; rw [duties_b2]; rfl
theorem expect_send : (ring D).expect (sendCell c s) 0 = N := by
  unfold Schedule.expect Schedule.amountOf; rw [duties_send, Finset.sum_singleton]; rfl
theorem expect_recv : (ring D).expect (recvCell c s) 0 = N := by
  unfold Schedule.expect Schedule.amountOf; rw [duties_recv, Finset.sum_singleton]; rfl

theorem both (Φ : Bool → sProp 𝕄) : bigSep Finset.univ Φ = iprop(Φ false ∗ Φ true) :=
  bigSep_univ_eq_bigSepL [false, true] (by decide) (by decide) Φ

theorem rest_b1 : bigSep ((ring D).duties (b1Cell c) 0 \ ∅) (fun u => (ring D).payload (b1Cell c) 0 u) = iprop((lend c ∗ reached ER (b2Cell (right c)) 0) ∗ reached ER (b2Cell (left c)) 0) := by
  rw [Finset.sdiff_empty, duties_b1, both, payload_b1_false, payload_b1_true]
theorem rest_send : bigSep ((ring D).duties (sendCell c s) 0 \ ∅) (fun u => (ring D).payload (sendCell c s) 0 u) = sentPay D c s := by
  rw [Finset.sdiff_empty, duties_send, bigSep_singleton, payload_send]
theorem rest_recv : bigSep ((ring D).duties (recvCell c s) 0 \ ∅) (fun u => (ring D).payload (recvCell c s) 0 u) = landPay D c s := by
  rw [Finset.sdiff_empty, duties_recv, bigSep_singleton, payload_recv]

end Tables

/-! ## What a device owes, and the order of the waits -/

/-- Once the ring's steps are over: one unit to each neighbour's second barrier. -/
def owed2 (c : Dev nD) : CellTallies nD τ sig Unit := tallyAt (b2Cell (right c)) () 1 + tallyAt (b2Cell (left c)) () 1

/-- With the last `n` copies still to be made. -/
def owedN (c : Dev nD) : ℕ → CellTallies nD τ sig Unit
  | 0 => owed2 c
  | n + 1 => owedN c n + tallyAt (recvCell (right c) ⟨5 - n, by omega⟩) () N

/-- At launch. -/
def owed (c : Dev nD) : CellTallies nD τ sig Unit :=
  (owedN c 6 + tallyAt (b1Cell (right c)) () 1) + tallyAt (b1Cell (left c)) () 1

theorem owedN_step (c : Dev nD) (s : Fin 6) : owedN c (6 - s.val) = owedN c (5 - s.val) + tallyAt (recvCell (right c) s) () N := by
  match s with
  | 0 => rfl | 1 => rfl | 2 => rfl | 3 => rfl | 4 => rfl | 5 => rfl

def L (g : GSem nD τ sig) : Finset Unit := if g.1.2 = .tc then {()} else ∅
/-- The first barrier before the landings, each landing before the next, the second barrier last; a leaving and a
    staged copy before all. -/
def lv (g : GSem nD τ sig) (_ : Unit) : ℕ := match g.2 with
  | .reg j => if j = bar1 then 1 else 8
  | .dma j => j.val - 8

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (s : Fin 6) : lv (recvCell c s) () = 2 + s.val := by
  show 10 + s.val - 8 = _; omega
theorem lv_send (c : Dev nD) (s : Fin 6) : lv (sendCell c s) () ≤ 1 := by
  have := s.isLt; show 4 + s.val - 8 ≤ 1; omega

theorem tally_of_pos {g g' : GSem nD τ sig} {u : Unit} {k : ℕ} (h : 0 < (tallyAt g () k : CellTallies nD τ sig Unit) g' u) : g' = g := by
  rw [tallyAt_apply] at h
  by_contra hne
  rw [if_neg (fun e => hne e.1)] at h
  exact absurd h (Nat.lt_irrefl 0)

/-- With `n` copies to make, only the last `n` landings and the second barrier are owed. -/
theorem owedN_pos (c : Dev nD) : ∀ n, n ≤ 6 → ∀ (g : GSem nD τ sig) (u : Unit), 0 < owedN c n g u →
    L g = {()} ∧ 8 - n ≤ lv g ()
  | 0, _, g, u, h => by
    have h' : 0 < (tallyAt (b2Cell (right c)) () 1 : CellTallies nD τ sig Unit) g u + (tallyAt (b2Cell (left c)) () 1 : CellTallies nD τ sig Unit) g u := h
    rcases Nat.add_pos_iff_pos_or_pos.mp h' with h' | h' <;>
      (rw [tally_of_pos h']; exact ⟨L_tc _ _, Nat.le_refl 8⟩)
  | n + 1, hn, g, u, h => by
    have h' : 0 < owedN c n g u + (tallyAt (recvCell (right c) ⟨5 - n, by omega⟩) () N : CellTallies nD τ sig Unit) g u := h
    rcases Nat.add_pos_iff_pos_or_pos.mp h' with h' | h'
    · exact ⟨(owedN_pos c n (by omega) g u h').1, by have := (owedN_pos c n (by omega) g u h').2; omega⟩
    · rw [tally_of_pos h']
      refine ⟨L_tc _ _, ?_⟩
      rw [lv_recv]; show 8 - (n + 1) ≤ 2 + (5 - n); omega

/-- A wait below everything still owed is allowed. -/
theorem mayWait_owedN (c : Dev nD) (sm : SemLoc sig) (n : ℕ) (hn : n ≤ 6) (h : lv ((c : Thread nD τ), sm) () < 8 - n) :
    (levAts L lv : sProp 𝕄) ⊢ MayWait (c : Thread nD τ) sm () (owedN c n) :=
  MayOwe.of_cut (L := L) (lev := lv) (lv ((c : Thread nD τ), sm) ())
    (fun p hp => by rw [Finset.mem_singleton.mp hp, L_tc]; exact Finset.mem_singleton_self _)
    (fun g u hg => by rw [(owedN_pos c n hn g u hg).1]; exact Finset.mem_singleton_self _)
    (fun p hp => by rw [Finset.mem_singleton.mp hp])
    (fun g u hg => lt_of_lt_of_le h (owedN_pos c n hn g u hg).2)

end Cert.RingNorm
-- ==== Proof.Steps.lean ====
/- One copy of the ring: made, waited for by its sender, waited for by its receiver. -/
module

public import proofs.«01_k».proof.Proof.Schedule

@[expose] public section

noncomputable section

namespace Cert.RingNorm

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F)

/-! ## Every cell of the protocol, and its invariant -/

/-- The counters of one device that live only while the kernel runs: the second barrier, the leavings, the landings. -/
def osem : Option (Bool × Fin 6) → SemLoc sig
  | none => .reg bar2
  | some (false, s) => .dma (sendS s)
  | some (true, s) => .dma (recvS s)

/-- Different copies and sides use different counters. -/
theorem osem_inj : Function.Injective osem := by decide

/-- The counters that live in the call, one for each device and name. -/
def scopedAt : Dev nD × Option (Bool × Fin 6) ↪ GSem nD τ sig :=
  ⟨fun x => ((x.1 : Thread nD τ), osem x.2), fun a b h => by
    obtain ⟨h1, h2⟩ := Prod.mk.inj h
    obtain ⟨a1, a2⟩ := a
    obtain ⟨b1, b2⟩ := b
    obtain rfl : a1 = b1 := (Prod.mk.inj h1).1
    obtain rfl : a2 = b2 := osem_inj h2
    rfl⟩
/-- The entry barrier's counter of each device. -/
def barAt : Dev nD ↪ GSem nD τ sig := ⟨b1Cell, fun a b h => (Prod.mk.inj (Prod.mk.inj h).1).1⟩

/-- The entry barrier's cells. -/
def barCells : Finset (GSem nD τ sig) := Finset.univ.map barAt
/-- The cells that live in the call. -/
def scCells : Finset (GSem nD τ sig) := Finset.univ.map scopedAt

/-- Each device's entry barrier is among the cells. -/
theorem mem_bar (c : Dev nD) : b1Cell c ∈ barCells := Finset.mem_map_of_mem barAt (Finset.mem_univ c)
/-- Each counter of the call is among the cells. -/
theorem mem_sc (c : Dev nD) (o : Option (Bool × Fin 6)) : ((c : Thread nD τ), osem o) ∈ scCells :=
  Finset.mem_map_of_mem scopedAt (Finset.mem_univ (c, o))

/-- Every cell's invariant, at the name `K` gives it; and every first barrier at its round 0. -/
def invs (K : GSem nD τ sig → ℕ) : sProp 𝕄 :=
  iprop(bigSep (barCells ∪ scCells) (fun g => cellInv ER (ring D) (K g) g) ∗ bigSep barCells (fun g => reached ER g 0))

instance invs_persistent (K : GSem nD τ sig → ℕ) : BI.Persistent (invs D K) := by unfold invs; infer_instance

/-- Each cell's invariant, from all of them. -/
theorem inv_cell (K : GSem nD τ sig → ℕ) {g : GSem nD τ sig} (hg : g ∈ barCells ∪ scCells) :
    invs D K ⊢ cellInv ER (ring D) (K g) g := by
  unfold invs
  exact sep_elim_left.trans (show _ ⊢ _ from BI.bigSep_elim (Φ := fun g => (cellInv ER (ring D) (K g) g : sProp 𝕄)) hg)
/-- The entry barrier's invariant. -/
theorem inv_b1 (K : GSem nD τ sig → ℕ) (c : Dev nD) : invs D K ⊢ cellInv ER (ring D) (K (b1Cell c)) (b1Cell c) :=
  inv_cell D K (Finset.mem_union_left _ (mem_bar c))
/-- The closing barrier's invariant. -/
theorem inv_b2 (K : GSem nD τ sig → ℕ) (c : Dev nD) : invs D K ⊢ cellInv ER (ring D) (K (b2Cell c)) (b2Cell c) :=
  inv_cell D K (Finset.mem_union_right _ (mem_sc c none))
/-- The invariant of a copy's sending counter. -/
theorem inv_send (K : GSem nD τ sig → ℕ) (c : Dev nD) (s : Fin 6) : invs D K ⊢ cellInv ER (ring D) (K (sendCell c s)) (sendCell c s) :=
  inv_cell D K (Finset.mem_union_right _ (mem_sc c (some (false, s))))
/-- The invariant of a copy's receiving counter. -/
theorem inv_recv (K : GSem nD τ sig → ℕ) (c : Dev nD) (s : Fin 6) : invs D K ⊢ cellInv ER (ring D) (K (recvCell c s)) (recvCell c s) :=
  inv_cell D K (Finset.mem_union_right _ (mem_sc c (some (true, s))))
/-- Every device's entry barrier has reached its only round. -/
theorem reach_b1 (K : GSem nD τ sig → ℕ) (c : Dev nD) : invs D K ⊢ reached ER (b1Cell c) 0 := by
  unfold invs
  exact sep_elim_right.trans (show _ ⊢ _ from BI.bigSep_elim (Φ := fun g => (reached ER g 0 : sProp 𝕄)) (mem_bar c))

/-- A cell whose only round is over gives its counter back at zero. -/
theorem close (K : GSem nD τ sig → ℕ) {g : GSem nD τ sig} (hg : g ∈ barCells ∪ scCells) :
    iprop(invs D K ∗ atPos ER g 1 ∅ 0) ⊢ (|={Set.univ}=> semVal g 0 : sProp 𝕄) :=
  (sep_mono_left (inv_cell D K hg)).trans (Rounds.cell_close ER (ring D) (Set.mem_univ (K g)) id (duties_later D g))

/-! ## The states of copy `s` at device `c` -/

/-- Device `c` owes the second barriers and its last `n` copies. -/
def owing (c : Dev nD) (n : ℕ) : sProp 𝕄 := iprop(∃ W, owes (c : Thread nD τ) (owedN c n) W)

/-- What the device has of copy `s` before the first barrier. -/
def kit (c : Dev nD) (s : Fin 6) : sProp 𝕄 :=
  iprop(atPos ER (sendCell c s) 0 ∅ 0 ∗ atPos ER (recvCell c s) 0 ∅ 0 ∗ reached ER (sendCell c s) 0
    ∗ dutyTok ER (sendCell c s) 0 false ∗ dutyTok ER (recvCell (right c) s) 0 false ∗ cred (tallyAt (recvCell c s) () N))
/-- The landing place the right neighbour lends for copy `s`. -/
def place (c : Dev nD) (s : Fin 6) : sProp 𝕄 :=
  iprop(some' (right c) (dstM (right c) s) ∗ reached ER (recvCell (right c) s) 0)
/-- Copy `s` under way. -/
def away (c : Dev nD) (s : Fin 6) : sProp 𝕄 :=
  iprop(atPos ER (sendCell c s) 0 ∅ 0 ∗ atPos ER (recvCell c s) 0 ∅ 0 ∗ cred (tallyAt (recvCell c s) () N) ∗ cred (tallyAt (sendCell c s) () N))
/-- Copy `s` gone, the copy from the left still to come. -/
def gone (c : Dev nD) (s : Fin 6) : sProp 𝕄 :=
  iprop(atPos ER (sendCell c s) 1 ∅ 0 ∗ atPos ER (recvCell c s) 0 ∅ 0 ∗ cred (tallyAt (recvCell c s) () N))
/-- Both over. -/
def over (c : Dev nD) (s : Fin 6) : sProp 𝕄 :=
  iprop(atPos ER (sendCell c s) 1 ∅ 0 ∗ atPos ER (recvCell c s) 1 ∅ 0)

/-- What a device lends at the entry barrier, written out. -/
theorem lend_eq (c : Dev nD) : (lend c : sProp 𝕄)
    = iprop(place c 0 ∗ place c 1 ∗ place c 2 ∗ place c 3 ∗ place c 4 ∗ place c 5) :=
  bigSep_univ_eq_bigSepL [0, 1, 2, 3, 4, 5] (by decide) (by decide) fun s : Fin 6 => (place c s : sProp 𝕄)

/-- The body uses no loop. -/
abbrev 𝒱₀ : Variants := Variants.none

/-- Making copy `s`: the source goes with it, the debt of it with it too. -/
theorem wp_push (K : GSem nD τ sig → ℕ) (c : Dev nD) (s : Fin 6) {d : Dev nD} (src dst : Memref sig .tc .vmem S256x1024 .f32)
    {sS sR : DmaSem sig} (hd : d = right c) (hsrc : src = srcM c s) (hdst : dst = dstM (right c) s)
    (hS : sS = sendS s) (hR : sR = recvS s)
    {hsrc' : src.view.WordExact} {hdst' : dst.view.WordExact}
    {hsem : DmaTarget.Typed .vmem (.dma sR) (.remote (p := .tc) (d : Thread nD τ) dst (.dma sS))}
    {α : Type} {k : PUnit → Prog (TpuEff nD τ sig (Elt F) Λ₀ .tc) α} {Q : α → sProp 𝕄} :
    iprop(invs D K ∗ kit c s ∗ place c s ∗ holds c (srcM c s) (srcX D c s) ∗ owing c (6 - s.val))
      ⊢ iprop((away c s ∗ owing c (5 - s.val) -∗ wp frame (wpE (defs₀ (F := F)) 𝒱₀ c none) Set.univ (k ⟨⟩) Q)
        -∗ wp frame (wpE (defs₀ (F := F)) 𝒱₀ c none) Set.univ
          (.op (.enqueueDma src (.remote (d : Thread nD τ) dst (.dma sS)) (.dma sR) hsrc' hdst' hsem) k) Q) := by
  subst hd hsrc hdst hS hR
  unfold kit place owing holds some' away
  iintro ⟨#HI, ⟨HatS, HatV, #HrS, HtS, HtV, HcV⟩, ⟨⟨%fd, Hd⟩, #HrV⟩, ⟨%fs, %hfs, Hs⟩, %W, HO⟩ Hk
  iapply (Rounds.wp_send_pointsTo 𝒱₀ ER (ring D) (c : Thread nD τ) none (c' := (right c : Thread nD τ)) (src := srcM c s) (dst := dstM (right c) s)
      (sS := .dma (sendS s)) (sem := .dma (recvS s)) (q := fullShare) (fs := fs) (κ₁ := K (sendCell c s)) (κ₂ := K (recvCell (right c) s))
      (r₁ := 0) (r₂ := 0) (d₁ := false) (d₂ := false) (fd := fd)
      (by rw [duties_send]; exact Finset.mem_singleton_self _) (by rw [duties_recv]; exact Finset.mem_singleton_self _)
      () () N (N_dst (right c) s) rfl rfl (owedN c (5 - s.val)) (owedN_step c s) (W := W)
      (by
        rw [payload_send]; unfold sentPay holds
        iintro H; iexists fs; isplitr; · ipureintro; exact hfs
        iexact H)
      (by
        rw [payload_recv]; unfold landPay holds
        iintro H; iexists ((dstM (right c) s).view.write (Elt F) fd ((srcM c s).view.read (Elt F) fs) Finset.univ)
        isplitr; · ipureintro; rw [View.read_write_univ, hfs, dstX_right]
        iexact H)) $$ [Hs Hd HO HtS HtV]
  · isplitr; · iapply (inv_send D K c s); iexact HI
    isplitr; · iapply (inv_recv D K (right c) s); iexact HI
    isplitl [Hs]; · iexact Hs
    isplitl [Hd]; · iexact Hd
    isplitl [HO]; · iexact HO
    isplitl [HtS]; · iexact HtS
    isplitr; · iexact HrS
    isplitl [HtV]; · iexact HtV
    iexact HrV
  iintro ⟨HcS, HO⟩
  iapply Hk
  isplitr [HO]
  · isplitl [HatS]; · iexact HatS
    isplitl [HatV]; · iexact HatV
    isplitl [HcV]; · iexact HcV
    iexact HcS
  iexists W; iexact HO

/-- Waiting until copy `s` has left: the source is back. -/
theorem wp_left (K : GSem nD τ sig → ℕ) (c : Dev nD) (s : Fin 6) {sp sp' : Space} {s1 s2 : Shape} {e1 e2 : EltTy}
    {κ' : Kind} {src : Memref sig .tc sp' s2 e2} {dst : Memref sig κ' sp s1 e1}
    {sS : DmaSem sig} (hS : sS = sendS s) (hN : dst.view.dmaCredit = N)
    {hsrc' : src.view.WordExact} {hdst' : dst.view.WordExact}
    {α : Type} {k : PUnit → Prog (TpuEff nD τ sig (Elt F) Λ₀ .tc) α} {Q : α → sProp 𝕄} :
    iprop(invs D K ∗ levAts L lv ∗ away c s ∗ owing c (5 - s.val))
      ⊢ iprop((gone c s ∗ holds c (srcM c s) (srcX D c s) ∗ owing c (5 - s.val)
          -∗ wp frame (wpE (defs₀ (F := F)) 𝒱₀ c none) Set.univ (k ⟨⟩) Q)
        -∗ wp frame (wpE (defs₀ (F := F)) 𝒱₀ c none) Set.univ (.op (.waitDma2 sS src dst hsrc' hdst') k) Q) := by
  subst hS
  unfold away owing gone
  iintro ⟨#HI, #Hlev, ⟨HatS, HatV, HcV, HcS⟩, %W, HO⟩ Hk
  iapply (Rounds.wp_wait_rest_token 𝒱₀ ER (ring D) (c : Thread nD τ) none (κ := K (sendCell c s))
      (wpE_waitDma2_eq 𝒱₀ (c : Thread nD τ) none Set.univ) (Set.mem_univ _) () (O := owedN c (5 - s.val)) (W := W) (R := 0) (m := 0) (T := ∅)
      ((Nat.zero_add _).trans (hN.trans (expect_send D c s).symm))) $$ [HcS HO HatS]
  · isplitr; · iapply (inv_send D K c s); iexact HI
    isplitl [HcS]; · rw [hN]; iexact HcS
    isplitl [HO]; · iexact HO
    isplitr
    · iapply (mayWait_owedN c (.dma (sendS s)) (5 - s.val) (by omega) (by have := lv_send c s; show lv (sendCell c s) () < _; omega))
      iexact Hlev
    iexact HatS
  iintro ⟨HO, HatS, -, Hpay⟩
  ihave Hp := (Entails.of_eq (rest_send D c s)) $$ Hpay
  unfold sentPay
  iapply Hk
  isplitr [Hp HO]
  · isplitl [HatS]; · iexact HatS
    isplitl [HatV]; · iexact HatV
    iexact HcV
  isplitl [Hp]; · iexact Hp
  iexists _; iexact HO

/-- Waiting until the left neighbour's copy `s` has landed: its contents are there. -/
theorem wp_land (K : GSem nD τ sig → ℕ) (c : Dev nD) (s : Fin 6) {sp sp' : Space} {s1 s2 : Shape} {e1 e2 : EltTy}
    {κ' : Kind} {src : Memref sig .tc sp' s2 e2} {dst : Memref sig κ' sp s1 e1}
    {sR : DmaSem sig} (hR : sR = recvS s) (hN : dst.view.dmaCredit = N)
    {hsrc' : src.view.WordExact} {hdst' : dst.view.WordExact}
    {α : Type} {k : PUnit → Prog (TpuEff nD τ sig (Elt F) Λ₀ .tc) α} {Q : α → sProp 𝕄} :
    iprop(invs D K ∗ levAts L lv ∗ gone c s ∗ owing c (5 - s.val))
      ⊢ iprop((over c s ∗ holds c (dstM c s) (dstX D c s) ∗ owing c (5 - s.val)
          -∗ wp frame (wpE (defs₀ (F := F)) 𝒱₀ c none) Set.univ (k ⟨⟩) Q)
        -∗ wp frame (wpE (defs₀ (F := F)) 𝒱₀ c none) Set.univ (.op (.waitDma2 sR src dst hsrc' hdst') k) Q) := by
  subst hR
  unfold gone owing over
  iintro ⟨#HI, #Hlev, ⟨HatS, HatV, HcV⟩, %W, HO⟩ Hk
  iapply (Rounds.wp_wait_rest_token 𝒱₀ ER (ring D) (c : Thread nD τ) none (κ := K (recvCell c s))
      (wpE_waitDma2_eq 𝒱₀ (c : Thread nD τ) none Set.univ) (Set.mem_univ _) () (O := owedN c (5 - s.val)) (W := W) (R := 0) (m := 0) (T := ∅)
      ((Nat.zero_add _).trans (hN.trans (expect_recv D c s).symm))) $$ [HcV HO HatV]
  · isplitr; · iapply (inv_recv D K c s); iexact HI
    isplitl [HcV]; · rw [hN]; iexact HcV
    isplitl [HO]; · iexact HO
    isplitr
    · iapply (mayWait_owedN c (.dma (recvS s)) (5 - s.val) (by omega) (by have := lv_recv c s; show lv (recvCell c s) () < _; omega))
      iexact Hlev
    iexact HatV
  iintro ⟨HO, HatV, -, Hpay⟩
  ihave Hp := (Entails.of_eq (rest_recv D c s)) $$ Hpay
  unfold landPay
  iapply Hk
  isplitr [Hp HO]
  · isplitl [HatS]; · iexact HatS
    iexact HatV
  isplitl [Hp]; · iexact Hp
  iexists _; iexact HO

end Cert.RingNorm
-- ==== Proof.Barriers.lean ====
/- The two barriers of one device: it raises both neighbours' counters, then waits for both to have raised its own. -/
module

public import proofs.«01_k».proof.Proof.Steps

@[expose] public section

noncomputable section

namespace Cert.RingNorm

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F)

/-- What a device has of the first barrier before it. -/
def kit1 (c : Dev nD) : sProp 𝕄 :=
  iprop(atPos ER (b1Cell c) 0 ∅ 0 ∗ cred (tallyAt (b1Cell c) () 2) ∗ dutyTok ER (b1Cell (left c)) 0 false
    ∗ dutyTok ER (b1Cell (right c)) 0 true ∗ reached ER (b2Cell c) 0)
/-- What a device has of the second barrier before it. -/
def kit2 (c : Dev nD) : sProp 𝕄 :=
  iprop(atPos ER (b2Cell c) 0 ∅ 0 ∗ cred (tallyAt (b2Cell c) () 2)
    ∗ dutyTok ER (b2Cell (left c)) 0 false ∗ dutyTok ER (b2Cell (right c)) 0 true)
/-- What a device owes before the first barrier. -/
def owingAll (c : Dev nD) : sProp 𝕄 := iprop(∃ W, owes (c : Thread nD τ) (owed c) W)
/-- A device that owes nothing more. -/
def owingNone (c : Dev nD) : sProp 𝕄 := iprop(∃ W, owes (c : Thread nD τ) (0 : CellTallies nD τ sig Unit) W)

/-- The first barrier: a device lends its landing places to its left neighbour and is lent its right neighbour's. -/
theorem wp_bar1 (K : GSem nD τ sig → ℕ) (c : Dev nD) {dl dr : Dev nD} (hl : dl = left c) (hr : dr = right c)
    {α : Type} {k : PUnit → Prog (TpuEff nD τ sig (Elt F) Λ₀ .tc) α} {Q : α → sProp 𝕄} :
    iprop(invs D K ∗ levAts L lv ∗ kit1 c ∗ lend (left c) ∗ owingAll c)
      ⊢ iprop((atPos ER (b1Cell c) 1 ∅ 0 ∗ (lend c ∗ near c) ∗ owing c 6
          -∗ wp frame (wpE (defs₀ (F := F)) 𝒱₀ c none) Set.univ (k ⟨⟩) Q)
        -∗ wp frame (wpE (defs₀ (F := F)) 𝒱₀ c none) Set.univ
          (.op (.semSignal (dl : Thread nD τ) bar1 (1#32).toInt) fun _ => .op (.semSignal (dr : Thread nD τ) bar1 (1#32).toInt)
            fun _ => .op (.semWait bar1 (2#32).toInt) k) Q) := by
  subst hl hr
  unfold kit1 owingAll owing
  iintro ⟨#HI, #Hlev, ⟨Hat, Hc, HtL, HtR, #Hb⟩, Hl, %W, HO⟩ Hk
  iapply (Rounds.wp_signal 𝒱₀ ER (ring D) (c : Thread nD τ) none (dst := (left c : Thread nD τ)) (κ := K (b1Cell (left c)))
      (d := false) (by rw [duties_b1]; exact Finset.mem_univ _) rfl () (owedN c 6 + tallyAt (b1Cell (right c)) () 1) rfl) $$ [HO HtL Hl]
  · isplitr; · iapply (inv_b1 D K (left c)); iexact HI
    isplitl [HO]; · iexact HO
    isplitl [HtL]; · iexact HtL
    isplitl [Hl]; · rw [payload_b1_false, right_left]; isplitl [Hl] <;> iassumption
    iapply (reach_b1 D K (left c)); iexact HI
  iintro HO
  iapply (Rounds.wp_signal 𝒱₀ ER (ring D) (c : Thread nD τ) none (dst := (right c : Thread nD τ)) (κ := K (b1Cell (right c)))
      (d := true) (by rw [duties_b1]; exact Finset.mem_univ _) rfl () (owedN c 6) rfl) $$ [HO HtR]
  · isplitr; · iapply (inv_b1 D K (right c)); iexact HI
    isplitl [HO]; · iexact HO
    isplitl [HtR]; · iexact HtR
    isplitr; · rw [payload_b1_true, left_right]; iexact Hb
    iapply (reach_b1 D K (right c)); iexact HI
  iintro HO
  iapply (Rounds.wp_wait_rest_token 𝒱₀ ER (ring D) (c : Thread nD τ) none (κ := K (b1Cell c))
      (wpE_semWait_eq 𝒱₀ (c : Thread nD τ) none Set.univ) (Set.mem_univ _) () (O := owedN c 6) (W := W) (R := 0) (m := 0) (T := ∅)
      (by rw [expect_b1]; decide)) $$ [Hc HO Hat]
  · isplitr; · iapply (inv_b1 D K c); iexact HI
    isplitl [Hc]; · iexact Hc
    isplitl [HO]; · iexact HO
    isplitr
    · iapply (mayWait_owedN c (.reg bar1) 6 (by omega) (Nat.lt_succ_self 1)); iexact Hlev
    iexact Hat
  iintro ⟨HO, Hat, -, Hpay⟩
  ihave Hp := (Entails.of_eq (rest_b1 D c)) $$ Hpay
  icases Hp with ⟨⟨Hp, Hn1⟩, Hn2⟩
  iapply Hk
  isplitl [Hat]; · iexact Hat
  isplitl [Hp Hn1 Hn2]
  · isplitl [Hp]; · iexact Hp
    unfold near
    isplitl [Hn1] <;> iassumption
  iexists _; iexact HO

/-- What a device has of the second barrier between its raises and its wait. -/
def half2 (c : Dev nD) : sProp 𝕄 := iprop(atPos ER (b2Cell c) 0 ∅ 0 ∗ cred (tallyAt (b2Cell c) () 2) ∗ owingNone c)

/-- The second barrier's raises: nothing is handed over, and nothing is owed after them. -/
theorem wp_raise2 (K : GSem nD τ sig → ℕ) (c : Dev nD) {dl dr : Dev nD} {b : Sem sig} (hl : dl = left c) (hr : dr = right c)
    (hb : b = bar2) {α : Type} {k : PUnit → Prog (TpuEff nD τ sig (Elt F) Λ₀ .tc) α} {Q : α → sProp 𝕄} :
    iprop(invs D K ∗ kit2 c ∗ near c ∗ owing c 0)
      ⊢ iprop((half2 c -∗ wp frame (wpE (defs₀ (F := F)) 𝒱₀ c none) Set.univ (k ⟨⟩) Q)
        -∗ wp frame (wpE (defs₀ (F := F)) 𝒱₀ c none) Set.univ
          (.op (.semSignal (dl : Thread nD τ) b (1#32).toInt) fun _ => .op (.semSignal (dr : Thread nD τ) b (1#32).toInt) k) Q) := by
  subst hl hr hb
  unfold kit2 near owing half2 owingNone
  iintro ⟨#HI, ⟨Hat, Hc, HtL, HtR⟩, ⟨#HrR, #HrL⟩, %W, HO⟩ Hk
  iapply (Rounds.wp_signal 𝒱₀ ER (ring D) (c : Thread nD τ) none (dst := (left c : Thread nD τ)) (κ := K (b2Cell (left c)))
      (d := false) (by rw [duties_b2]; exact Finset.mem_univ _) rfl () (tallyAt (b2Cell (right c)) () 1) rfl) $$ [HO HtL]
  · isplitr; · iapply (inv_b2 D K (left c)); iexact HI
    isplitl [HO]; · iexact HO
    isplitl [HtL]; · iexact HtL
    isplitr; · rw [payload_b2]; iempintro
    iexact HrL
  iintro HO
  iapply (Rounds.wp_signal 𝒱₀ ER (ring D) (c : Thread nD τ) none (dst := (right c : Thread nD τ)) (κ := K (b2Cell (right c)))
      (d := true) (by rw [duties_b2]; exact Finset.mem_univ _) rfl () 0 (zero_add _).symm) $$ [HO HtR]
  · isplitr; · iapply (inv_b2 D K (right c)); iexact HI
    isplitl [HO]; · iexact HO
    isplitl [HtR]; · iexact HtR
    isplitr; · rw [payload_b2]; iempintro
    iexact HrR
  iintro HO
  iapply Hk
  isplitl [Hat]; · iexact Hat
  isplitl [Hc]; · iexact Hc
  iexists W; iexact HO

/-- The second barrier's wait. -/
theorem wp_wait2 (K : GSem nD τ sig → ℕ) (c : Dev nD) {b : Sem sig} (hb : b = bar2)
    {α : Type} {k : PUnit → Prog (TpuEff nD τ sig (Elt F) Λ₀ .tc) α} {Q : α → sProp 𝕄} :
    iprop(invs D K ∗ half2 c)
      ⊢ iprop((atPos ER (b2Cell c) 1 ∅ 0 ∗ owingNone c
          -∗ wp frame (wpE (defs₀ (F := F)) 𝒱₀ c none) Set.univ (k ⟨⟩) Q)
        -∗ wp frame (wpE (defs₀ (F := F)) 𝒱₀ c none) Set.univ (.op (.semWait b (2#32).toInt) k) Q) := by
  subst hb
  unfold half2 owingNone
  iintro ⟨#HI, Hat, Hc, %W, HO⟩ Hk
  iapply (Rounds.wp_wait_rest_token 𝒱₀ ER (ring D) (c : Thread nD τ) none (κ := K (b2Cell c))
      (wpE_semWait_eq 𝒱₀ (c : Thread nD τ) none Set.univ) (Set.mem_univ _) () (O := 0) (W := W) (R := 0) (m := 0) (T := ∅)
      (by rw [expect_b2]; decide)) $$ [Hc HO Hat]
  · isplitr; · iapply (inv_b2 D K c); iexact HI
    isplitl [Hc]; · iexact Hc
    isplitl [HO]; · iexact HO
    isplitr; · rw [MayWait_zero]; iempintro
    iexact Hat
  iintro ⟨HO, Hat, -, -⟩
  iapply Hk
  isplitl [Hat]; · iexact Hat
  iexists _; iexact HO

end Cert.RingNorm
-- ==== Proof.Access.lean ====
/- Reading and writing one chunk, and cutting an array into its chunks. -/
module

public import proofs.«01_k».proof.Proof.Steps

@[expose] public section

noncomputable section

namespace Cert.RingNorm

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section Access

variable (c : Dev nD) {α : Type}

/-- The four programs that begin with a load or a store of a chunk or a slot. -/
abbrev getP (M : Memref sig .tc .vmem S1024x1024 .f32) (off : Fin 2 → ℕ) (inb : ∀ a, off a + S256x1024.size a ≤ S1024x1024.size a)
    (hl : M.view.LoadsAt (Rect.unit (s := S1024x1024) off S256x1024.size inb).toLoadRect)
    (k : Vec F S256x1024 .f32 → Prog (TpuEff nD τ sig (Elt F) Λ₀ .tc) α) : Prog (TpuEff nD τ sig (Elt F) Λ₀ .tc) α :=
  .op (.load M (Rect.unit (s := S1024x1024) off S256x1024.size inb).toLoadRect hl : TpuEff nD τ sig (Elt F) Λ₀ .tc (Vec F S256x1024 .f32)) k
/-- A chunk of an array, stored. -/
abbrev putP (M : Memref sig .tc .vmem S1024x1024 .f32) (off : Fin 2 → ℕ) (inb : ∀ a, off a + S256x1024.size a ≤ S1024x1024.size a)
    (w : Vec F S256x1024 .f32) (hx : (M.access (Rect.unit (s := S1024x1024) off S256x1024.size inb)).Stores Finset.univ)
    (k : PUnit → Prog (TpuEff nD τ sig (Elt F) Λ₀ .tc) α) : Prog (TpuEff nD τ sig (Elt F) Λ₀ .tc) α :=
  .op (.store M (Rect.unit (s := S1024x1024) off S256x1024.size inb) w Finset.univ hx (.inl rfl) : TpuEff nD τ sig (Elt F) Λ₀ .tc PUnit) k
/-- A slot of the scratch buffer, loaded. -/
abbrev getSlotP (off : Fin 3 → ℕ) (inb : ∀ a, off a + S1x256x1024.size a ≤ S3x256x1024.size a)
    (hl : bM.view.LoadsAt (Rect.unit (s := S3x256x1024) off S1x256x1024.size inb).toLoadRect)
    (k : Vec F S1x256x1024 .f32 → Prog (TpuEff nD τ sig (Elt F) Λ₀ .tc) α) : Prog (TpuEff nD τ sig (Elt F) Λ₀ .tc) α :=
  .op (.load bM (Rect.unit (s := S3x256x1024) off S1x256x1024.size inb).toLoadRect hl : TpuEff nD τ sig (Elt F) Λ₀ .tc (Vec F S1x256x1024 .f32)) k
/-- A slot of the scratch buffer, stored. -/
abbrev putSlotP (off : Fin 3 → ℕ) (inb : ∀ a, off a + S1x256x1024.size a ≤ S3x256x1024.size a)
    (w : Vec F S1x256x1024 .f32) (hx : (bM.access (Rect.unit (s := S3x256x1024) off S1x256x1024.size inb)).Stores Finset.univ)
    (k : PUnit → Prog (TpuEff nD τ sig (Elt F) Λ₀ .tc) α) : Prog (TpuEff nD τ sig (Elt F) Λ₀ .tc) α :=
  .op (.store bM (Rect.unit (s := S3x256x1024) off S1x256x1024.size inb) w Finset.univ hx (.inl rfl) : TpuEff nD τ sig (Elt F) Λ₀ .tc PUnit) k

/-- Loading a chunk whose contents are known. -/
theorem wp_get {Q : α → sProp 𝕄} (M : Memref sig .tc .vmem S1024x1024 .f32) (q : Fin 4) (X : Vec F S256x1024 .f32) {off : Fin 2 → ℕ} (hoff : off = rowAt q)
    {inb : ∀ a, off a + S256x1024.size a ≤ S1024x1024.size a}
    {hl : M.view.LoadsAt (Rect.unit (s := S1024x1024) off S256x1024.size inb).toLoadRect}
    {k : Vec F S256x1024 .f32 → Prog (TpuEff nD τ sig (Elt F) Λ₀ .tc) α} :
    holds c (part M q) X
      ⊢ iprop((holds c (part M q) X -∗ wp frame (wpE (defs₀ (F := F)) 𝒱₀ c none) Set.univ (k X) Q)
        -∗ wp frame (wpE (defs₀ (F := F)) 𝒱₀ c none) Set.univ
          (getP M off inb hl k) Q) := by
  subst hoff
  unfold holds
  iintro ⟨%f, %hf, H⟩ Hk
  iapply (wp_load_rect 𝒱₀ (c : Thread nD τ) none Set.univ (m := M) (r := rows q) (f := f) (q := fullShare) (Finset.Subset.refl _)) $$ [H]
  · iexact H
  iintro H
  rw [show (M.access (rows q)).read (Elt F) f = X from hf]
  iapply Hk
  iexists f
  isplitr; · ipureintro; exact hf
  iexact H

/-- Storing a chunk. -/
theorem wp_put {Q : α → sProp 𝕄} (M : Memref sig .tc .vmem S1024x1024 .f32) (q : Fin 4) {off : Fin 2 → ℕ} (hoff : off = rowAt q)
    {inb : ∀ a, off a + S256x1024.size a ≤ S1024x1024.size a} {w : Vec F S256x1024 .f32}
    {hx : (M.access (Rect.unit (s := S1024x1024) off S256x1024.size inb)).Stores Finset.univ}
    {k : PUnit → Prog (TpuEff nD τ sig (Elt F) Λ₀ .tc) α} :
    some' c (part M q)
      ⊢ iprop((holds c (part M q) w -∗ wp frame (wpE (defs₀ (F := F)) 𝒱₀ c none) Set.univ (k ⟨⟩) Q)
        -∗ wp frame (wpE (defs₀ (F := F)) 𝒱₀ c none) Set.univ
          (putP M off inb w hx k) Q) := by
  subst hoff
  unfold holds some'
  iintro ⟨%f, H⟩ Hk
  iapply (wp_store 𝒱₀ (c : Thread nD τ) none Set.univ (m := M) (r := rows q) (f := f) (w := w) (Mk := Finset.univ) (Finset.Subset.refl _)) $$ [H]
  · iexact H
  iintro H
  iapply Hk
  iexists ((M.access (rows q)).write (Elt F) f w Finset.univ)
  isplitr; · ipureintro; exact View.read_write_univ _ _
  iexact H

/-- Loading a receive slot whose contents are known. -/
theorem wp_getSlot {Q : α → sProp 𝕄} (s : Fin 3) (X : Vec F S256x1024 .f32) {off : Fin 3 → ℕ} (hoff : off = ![s.val, 0, 0])
    {inb : ∀ a, off a + S1x256x1024.size a ≤ S3x256x1024.size a}
    {hl : bM.view.LoadsAt (Rect.unit (s := S3x256x1024) off S1x256x1024.size inb).toLoadRect}
    {k : Vec F S1x256x1024 .f32 → Prog (TpuEff nD τ sig (Elt F) Λ₀ .tc) α} :
    holds c (slot s) X
      ⊢ iprop((holds c (slot s) X
          -∗ wp frame (wpE (defs₀ (F := F)) 𝒱₀ c none) Set.univ (k (shapeCast S1x256x1024 X shapeCasts_S256x1024_S1x256x1024)) Q)
        -∗ wp frame (wpE (defs₀ (F := F)) 𝒱₀ c none) Set.univ
          (.op (.load bM (Rect.unit (s := S3x256x1024) off S1x256x1024.size inb).toLoadRect hl) k) Q) := by
  subst hoff
  unfold holds
  iintro ⟨%f, %hf, H⟩ Hk
  iapply (wp_load_rect 𝒱₀ (c : Thread nD τ) none Set.univ (m := bM) (r := slotRect s) (S := (slot s).view.set) (f := f) (q := fullShare)
    (by rw [View.set_reshape])) $$ [H]
  · iexact H
  iintro H
  have e : (bM.access (slotRect s)).read (Elt F) f = shapeCast S1x256x1024 X shapeCasts_S256x1024_S1x256x1024 := by
    rw [← hf]
    exact (shapeCast_shapeCast ((bM.access (slotRect s)).read (Elt F) f) shapeCasts_S1x256x1024_S256x1024 shapeCasts_S256x1024_S1x256x1024).symm
  rw [e]
  iapply Hk
  iexists f
  isplitr; · ipureintro; exact hf
  iexact H

/-- Storing a receive slot. -/
theorem wp_putSlot {Q : α → sProp 𝕄} (s : Fin 3) {off : Fin 3 → ℕ} (hoff : off = ![s.val, 0, 0])
    {inb : ∀ a, off a + S1x256x1024.size a ≤ S3x256x1024.size a} {w : Vec F S1x256x1024 .f32}
    {hx : (bM.access (Rect.unit (s := S3x256x1024) off S1x256x1024.size inb)).Stores Finset.univ}
    {k : PUnit → Prog (TpuEff nD τ sig (Elt F) Λ₀ .tc) α} (X : Vec F S256x1024 .f32) :
    holds c (slot s) X
      ⊢ iprop((holds c (slot s) (shapeCast S256x1024 w shapeCasts_S1x256x1024_S256x1024)
          -∗ wp frame (wpE (defs₀ (F := F)) 𝒱₀ c none) Set.univ (k ⟨⟩) Q)
        -∗ wp frame (wpE (defs₀ (F := F)) 𝒱₀ c none) Set.univ
          (putSlotP off inb w hx k) Q) := by
  subst hoff
  unfold holds
  iintro ⟨%f, %hf, H⟩ Hk
  iapply (wp_store 𝒱₀ (c : Thread nD τ) none Set.univ (m := bM) (r := slotRect s) (S := (slot s).view.set) (f := f) (w := w) (Mk := Finset.univ)
    (by rw [View.set_reshape]; exact Finset.Subset.refl _)) $$ [H]
  · iexact H
  iintro H
  iapply Hk
  iexists ((bM.access (slotRect s)).write (Elt F) f w Finset.univ)
  isplitr
  · ipureintro
    refine (Memref.read_squeeze_slice bM (slotRect s) (fun _ => rfl) squeezes_S1x256x1024_S256x1024 shapeCasts_S1x256x1024_S256x1024 _).trans ?_
    rw [View.readAt_rect]
    exact congrArg (fun v => shapeCast S256x1024 v shapeCasts_S1x256x1024_S256x1024)
      (View.read_write_univ (v := bM.access (slotRect s)) f w)
  iexact H

end Access

/-! ## An array and its chunks -/

/-- Every row lies in one of the four chunks. -/
theorem row_lt (i : S1024x1024.Idx) : (i 0).val / 256 < 4 := by
  have h : (i 0).val < 1024 := (i 0).isLt
  omega
/-- A row lies in chunk `q` just when its quotient by 256 is `q`. -/
theorem mem_rows (i : S1024x1024.Idx) (q : Fin 4) : i ∈ (rows q).set ↔ (i 0).val / 256 = q.val := by
  have h1 : (i 1).val < 1024 := (i 1).isLt
  rw [Rect.mem_set_unit]
  constructor
  · intro h
    have h0 : 256 * q.val ≤ (i 0).val ∧ (i 0).val < 256 * q.val + 256 := h 0
    omega
  · intro h a
    match a with
    | 0 => show 256 * q.val ≤ (i 0).val ∧ (i 0).val < 256 * q.val + 256; omega
    | 1 => show 0 ≤ (i 1).val ∧ (i 1).val < 0 + 1024; omega

/-- Different chunks share no element. -/
theorem part_disj (M : Memref sig .tc .vmem S1024x1024 .f32) (q q' : Fin 4) (h : q ≠ q') :
    Disjoint (part M q).view.set (part M q').view.set := by
  rw [View.set_slice, View.set_slice]
  refine (Finset.disjoint_map _).mpr ?_
  rw [Finset.disjoint_left]
  intro i hi hi'
  rw [mem_rows] at hi hi'
  exact h (Fin.ext (hi.symm.trans hi'))
/-- The four chunks are the whole array. -/
theorem part_cover (M : Memref sig .tc .vmem S1024x1024 .f32) :
    Finset.univ.biUnion (β := M.view.ty.Idx) (fun q : Fin 4 => (part M q).view.set) = M.view.set := by
  ext j
  simp only [Finset.mem_biUnion, Finset.mem_univ, true_and]
  constructor
  · rintro ⟨q, hq⟩; exact View.set_slice_subset _ _ hq
  · intro hj
    obtain ⟨i, -, rfl⟩ := Finset.mem_map.mp hj
    refine ⟨⟨(i 0).val / 256, row_lt i⟩, ?_⟩
    rw [View.set_slice]
    exact Finset.mem_map_of_mem _ ((mem_rows i _).mpr rfl)

/-- Reading a chunk is taking the chunk of what is read. -/
theorem read_part (M : Memref sig .tc .vmem S1024x1024 .f32) (q : Fin 4) (f : M.view.ty.Contents (Elt F)) :
    (part M q).view.read (Elt F) f = chunk (M.view.read (Elt F) f) q := rfl

/-- Four of something. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- A product over the four chunks, from `q` on downwards. -/
theorem four_from (Φ : Fin 4 → sProp 𝕄) (q : Fin 4) : bigSep Finset.univ Φ = iprop(Φ q ∗ Φ (q + 3) ∗ Φ (q + 2) ∗ Φ (q + 1)) :=
  bigSep_univ_eq_bigSepL [q, q + 3, q + 2, q + 1] (by revert q; decide) (by revert q; decide) Φ

/-- A whole array is its chunks, -/
theorem cut (c : Dev nD) (M : Memref sig .tc .vmem S1024x1024 .f32) (f : Buf (Elt F) (M.view.loc (c : Thread nD τ))) :
    ((M.view.loc (c : Thread nD τ) ↦[M.view.set]{fullShare} f) : sProp 𝕄)
      ⊢ bigSep Finset.univ fun q : Fin 4 => holds c (part M q) (chunk (M.view.read (Elt F) f) q) := by
  have e : ((M.view.loc (c : Thread nD τ) ↦[M.view.set]{fullShare} f) : sProp 𝕄)
      = bigSep Finset.univ fun q : Fin 4 => (M.view.loc (c : Thread nD τ) ↦[(part M q).view.set]{fullShare} f) :=
    by
      have h := pointsTo_biUnion (Ix := Unit) (Name := ℕ) (U := UU) (Lvl := ℕ) (ℓ := M.view.loc (c : Thread nD τ)) (q := fullShare) (f := f) Finset.univ
        (fun q : Fin 4 => (part M q).view.set) (fun q _ q' _ h => part_disj M q q' h)
      rw [part_cover M] at h
      exact h
  rw [e]
  refine bigSep_mono fun q _ => ?_
  show (_ : sProp 𝕄) ⊢ _
  unfold holds
  iintro H
  iexists f
  isplitr; · ipureintro; exact read_part M q f
  iexact H

/-- and its chunks are a whole array again. -/
theorem join (c : Dev nD) (M : Memref sig .tc .vmem S1024x1024 .f32) (Y : Fin 4 → Vec F S256x1024 .f32) :
    (bigSep Finset.univ fun q : Fin 4 => (holds c (part M q) (Y q) : sProp 𝕄))
      ⊢ iprop(∃ f : Buf (Elt F) (M.view.loc (c : Thread nD τ)), ⌜M.view.read (Elt F) f = glue Y⌝
          ∗ (M.view.loc (c : Thread nD τ) ↦[M.view.set]{fullShare} f)) := by
  unfold holds
  rw [four]
  iintro ⟨⟨%f0, %h0, H0⟩, ⟨%f1, %h1, H1⟩, ⟨%f2, %h2, H2⟩, ⟨%f3, %h3, H3⟩⟩
  ihave H := (pointsTo_biUnion_join Finset.univ (fun q : Fin 4 => (part M q).view.set)
    (![f0, f1, f2, f3] : Fin 4 → Buf (Elt F) (M.view.loc (c : Thread nD τ))) f0 (fun q _ q' _ h => part_disj M q q' h)) $$ [H0 H1 H2 H3]
  · rw [four]
    isplitl [H0]; · iexact H0
    isplitl [H1]; · iexact H1
    isplitl [H2]; · iexact H2
    iexact H3
  icases H with ⟨%g, %hg, H⟩
  have hq : ∀ q : Fin 4, (part M q).view.read (Elt F) ((![f0, f1, f2, f3] : Fin 4 → Buf (Elt F) (M.view.loc (c : Thread nD τ))) q) = Y q := fun
    | 0 => h0 | 1 => h1 | 2 => h2 | 3 => h3
  rw [part_cover M]
  iexists g
  isplitr
  · ipureintro
    have e : ∀ q, chunk (M.view.read (Elt F) g) q = Y q := fun q => by
      rw [← read_part, ← hq q]
      exact View.read_congr fun i hi => hg q (Finset.mem_univ q) i hi
    rw [← glue_chunk (M.view.read (Elt F) g)]
    exact congrArg glue (funext e)
  iexact H

/-! ## The receive slots -/

/-- Different slots share no element. -/
theorem slot_disj (s s' : Fin 3) (h : s ≠ s') : Disjoint (slot s).view.set (slot s').view.set := by
  rw [View.set_reshape, View.set_reshape, View.set_slice, View.set_slice]
  refine (Finset.disjoint_map _).mpr ?_
  refine Rect.unit_disjoint 0 ?_
  have : s.val ≠ s'.val := fun e => h (Fin.ext e)
  show s.val + 1 ≤ s'.val ∨ s'.val + 1 ≤ s.val
  omega
/-- The three slots are the whole scratch buffer. -/
theorem slot_cover : Finset.univ.biUnion (β := bM.view.ty.Idx) (fun s : Fin 3 => (slot s).view.set) = Finset.univ := by
  refine Finset.eq_univ_iff_forall.mpr fun i => Finset.mem_biUnion.mpr ⟨i 0, Finset.mem_univ _, ?_⟩
  rw [View.set_reshape, View.set_slice_whole, Rect.mem_set_unit]
  intro a
  match a with
  | 0 => exact ⟨Nat.le_refl _, Nat.lt_succ_self _⟩
  | 1 => exact ⟨Nat.zero_le _, by show (i 1).val < 0 + 256; have : (i 1).val < 256 := (i 1).isLt; omega⟩
  | 2 => exact ⟨Nat.zero_le _, by show (i 2).val < 0 + 1024; have : (i 2).val < 1024 := (i 2).isLt; omega⟩

/-- A product over the three slots, written out. -/
theorem three (Φ : Fin 3 → sProp 𝕄) : bigSep Finset.univ Φ = iprop(Φ 0 ∗ Φ 1 ∗ Φ 2) :=
  bigSep_univ_eq_bigSepL [0, 1, 2] (by decide) (by decide) Φ

/-- The scratch array is its three slots, -/
theorem slots_cut (c : Dev nD) :
    iprop(∃ f : Buf (Elt F) ((c : Thread nD τ).loc cc0_scratch0), ((c : Thread nD τ).loc cc0_scratch0) ↦{fullShare} f)
      ⊢ (iprop(some' c (slot 0) ∗ some' c (slot 1) ∗ some' c (slot 2)) : sProp 𝕄) := by
  iintro ⟨%f, H⟩
  have e : ((((c : Thread nD τ).loc cc0_scratch0) ↦{fullShare} f) : sProp 𝕄)
      = bigSep Finset.univ fun s : Fin 3 => (((c : Thread nD τ).loc cc0_scratch0) ↦[(slot s).view.set]{fullShare} f) :=
    by
      have h := pointsTo_biUnion (Ix := Unit) (Name := ℕ) (U := UU) (Lvl := ℕ) (ℓ := (c : Thread nD τ).loc cc0_scratch0) (q := fullShare) (f := f) Finset.univ
        (fun s : Fin 3 => (slot s).view.set) (fun s _ s' _ h => slot_disj s s' h)
      rw [slot_cover] at h
      exact h
  ihave H := (Entails.of_eq (e.trans (three _))) $$ H
  icases H with ⟨H0, H1, H2⟩
  unfold some'
  isplitl [H0]; · iexists f; iexact H0
  isplitl [H1]; · iexists f; iexact H1
  iexists f; iexact H2

/-- and the three slots the scratch array. -/
theorem slots_join (c : Dev nD) :
    (iprop(some' c (slot 0) ∗ some' c (slot 1) ∗ some' c (slot 2)) : sProp 𝕄)
      ⊢ iprop(∃ f : Buf (Elt F) ((c : Thread nD τ).loc cc0_scratch0), ((c : Thread nD τ).loc cc0_scratch0) ↦{fullShare} f) := by
  unfold some'
  iintro ⟨⟨%f0, H0⟩, ⟨%f1, H1⟩, ⟨%f2, H2⟩⟩
  ihave H := (pointsTo_biUnion_join (ℓ := (c : Thread nD τ).loc cc0_scratch0) Finset.univ (fun s : Fin 3 => (slot s).view.set)
    (![f0, f1, f2] : Fin 3 → Buf (Elt F) ((c : Thread nD τ).loc cc0_scratch0)) f0 (fun s _ s' _ h => slot_disj s s' h)) $$ [H0 H1 H2]
  · rw [three]
    isplitl [H0]; · iexact H0
    isplitl [H1]; · iexact H1
    iexact H2
  icases H with ⟨%g, -, H⟩
  rw [slot_cover]
  iexists g
  iexact H

end Cert.RingNorm
-- ==== Proof.Parts.lean ====
/- The kernel's body at device `c`, part by part: each part's theorem says what it uses and what it leaves. -/
module

public import proofs.«01_k».proof.Proof.Barriers
public import proofs.«01_k».proof.Proof.Access

@[expose] public section

noncomputable section

namespace Cert.RingNorm

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F)

/-- A chunk with known contents is a chunk with some contents. -/
theorem some_holds (c : Dev nD) (M : Memref sig .tc .vmem S256x1024 .f32) :
    some' c M ⊢ (iprop(∃ X, holds c M X) : sProp 𝕄) := by
  unfold holds some'
  iintro ⟨%f, H⟩; iexists (M.view.read (Elt F) f); iexists f
  isplitr; · ipureintro; rfl
  iexact H

/-- What the additions leave in a slot is the partial sum. -/
theorem pay1_eq (X Y : Vec F S256x1024 .f32) :
    shapeCast S256x1024 (k0_pay1 (shapeCast S1x256x1024 X shapeCasts_S256x1024_S1x256x1024) Y) shapeCasts_S1x256x1024_S256x1024 = addf X Y := by
  unfold k0_pay1; dsimp only; rw [shapeCast_shapeCast, shapeCast_shapeCast, shapeCast_self]
/-- What an addition stores in its slot is the plain sum of the two chunks. -/
theorem pay2_eq (X Y : Vec F S256x1024 .f32) :
    shapeCast S256x1024 (k0_pay2 (shapeCast S1x256x1024 X shapeCasts_S256x1024_S1x256x1024) Y) shapeCasts_S1x256x1024_S256x1024 = addf X Y := by
  unfold k0_pay2; dsimp only; rw [shapeCast_shapeCast, shapeCast_shapeCast, shapeCast_self]
/-- The last addition's value is the plain sum of the two chunks, -/
theorem pay3_eq (X Y : Vec F S256x1024 .f32) :
    k0_pay3 (shapeCast S1x256x1024 X shapeCasts_S256x1024_S1x256x1024) Y = addf X Y := by
  unfold k0_pay3; dsimp only; rw [shapeCast_shapeCast, shapeCast_self]
/-- and is stored in its slot as it is. -/
theorem pay4_eq (X : Vec F S256x1024 .f32) :
    shapeCast S256x1024 (k0_pay4 X) shapeCasts_S1x256x1024_S256x1024 = X := by
  unfold k0_pay4; dsimp only; rw [shapeCast_shapeCast]

/-- Device `c` holds all of `gamma`, which reads `X`. -/
def holdsG (c : Dev nD) (X : Vec F S1x1024 .f32) : sProp 𝕄 :=
  iprop(∃ f : Buf (Elt F) (gM.view.loc (c : Thread nD τ)), ⌜gM.view.read (Elt F) f = X⌝
    ∗ (gM.view.loc (c : Thread nD τ) ↦[gM.view.set]{fullShare} f))

/-- The gain as the kernel loads it. -/
abbrev getGP {α : Type} (inb : ∀ a, (![0, 0] : Fin 2 → ℕ) a + S1x1024.size a ≤ S1x1024.size a)
    (hl : gM.view.LoadsAt (Rect.unit (s := S1x1024) ![0, 0] S1x1024.size inb).toLoadRect)
    (k : Vec F S1x1024 .f32 → Prog (TpuEff nD τ sig (Elt F) Λ₀ .tc) α) : Prog (TpuEff nD τ sig (Elt F) Λ₀ .tc) α :=
  .op (.load gM (Rect.unit (s := S1x1024) ![0, 0] S1x1024.size inb).toLoadRect hl : TpuEff nD τ sig (Elt F) Λ₀ .tc (Vec F S1x1024 .f32)) k

/-- Loading `gamma`. -/
theorem wp_getG (c : Dev nD) {α : Type} {Q : α → sProp 𝕄} (X : Vec F S1x1024 .f32)
    {inb : ∀ a, (![0, 0] : Fin 2 → ℕ) a + S1x1024.size a ≤ S1x1024.size a}
    {hl : gM.view.LoadsAt (Rect.unit (s := S1x1024) ![0, 0] S1x1024.size inb).toLoadRect}
    {k : Vec F S1x1024 .f32 → Prog (TpuEff nD τ sig (Elt F) Λ₀ .tc) α} :
    holdsG c X
      ⊢ iprop((holdsG c X -∗ wp frame (wpE (defs₀ (F := F)) 𝒱₀ c none) Set.univ (k X) Q)
        -∗ wp frame (wpE (defs₀ (F := F)) 𝒱₀ c none) Set.univ (getGP inb hl k) Q) := by
  unfold holdsG
  iintro ⟨%f, %hf, H⟩ Hk
  have hs : (gM.access (Rect.unit (s := S1x1024) ![0, 0] S1x1024.size inb)).set ⊆ gM.view.set := View.set_slice_subset _ _
  iapply (wp_load_rect 𝒱₀ (c : Thread nD τ) none Set.univ (m := gM) (r := Rect.unit (s := S1x1024) ![0, 0] S1x1024.size inb) (S := gM.view.set) (f := f) (q := fullShare) hs) $$ [H]
  · iexact H
  iintro H
  have e : (gM.access (Rect.unit (s := S1x1024) ![0, 0] S1x1024.size inb)).read (Elt F) f = X := by
    rw [← hf]; funext i
    refine congrArg (gM.view.read (Elt F) f) (funext fun a => ?_)
    match a with
    | 0 => exact Fin.ext (by show 0 + 1 * (i 0).val = _; omega)
    | 1 => exact Fin.ext (by show 0 + 1 * (i 1).val = _; omega)
  rw [e]
  iapply Hk
  iexists f
  isplitr; · ipureintro; exact hf
  iexact H

/-- The first barrier. -/
theorem part2 (K : GSem nD τ sig → ℕ) (c : Dev nD) {h0 : pM.IsWhole} {h1 : rM.IsWhole} {h2 : gM.IsWhole} {h3 : oM.IsWhole} {h4 : bM.IsWhole} (v2 : BitVec 32) (v5 : BitVec 32) (v8 : BitVec 32) (v20 : BitVec 32) (v31 : BitVec 32) (v34 : BitVec 32)
    {Q : (Σ' (_ : BitVec 32) (_ : BitVec 32) (_ : BitVec 32) (_ : BitVec 1), BitVec 1) → sProp 𝕄} :
    iprop(invs D K ∗ levAts L lv ∗ kit1 c ∗ lend (left c) ∗ owingAll c)
      ⊢ iprop((∀ r, atPos ER (b1Cell c) 1 ∅ 0 ∗ (lend c ∗ near c) ∗ owing c 6 -∗ Q r) -∗ wp frame (wpE (defs₀ (F := F)) 𝒱₀ c none) Set.univ (k0_part2 (F := F) pM h0 rM h1 gM h2 oM h3 bM h4 cc0_scratch1 cc0_scratch2 cc0_scoped0 c v2 v5 v8 v20 v31 (SemArray.scalar (sig.barrier 0 rfl)) v34) Q) := by
  rw [k0_part2_eq_skeleton]; unfold k0_part2_skel
  simp only [semSignalWord, semWaitWord, Prog.lift, Prog.bind_op, Prog.bind_ret, Prog.pure_eq_ret, Prog.bind_assoc, wp_deviceId]
  iintro ⟨#HI, #Hlev, Hk, Hl, HO⟩ HQ
  iapply (wp_bar1 D K c (dev1 c) (dev2 c)) $$ [Hk Hl HO]
  · isplitr; · iexact HI
    isplitr; · iexact Hlev
    isplitl [Hk]; · iexact Hk
    isplitl [Hl]; · iexact Hl
    iexact HO
  iintro ⟨Hk, Hl, HO⟩
  rw [wp_ret]; imodintro
  iapply HQ
  isplitl [Hk]; · iexact Hk
  isplitl [Hl]; · iexact Hl
  iexact HO

/-- The first copy: a chunk of `p` leaves. -/
theorem part3 (K : GSem nD τ sig → ℕ) (c : Dev nD) {h0 : pM.IsWhole} {h1 : rM.IsWhole} {h2 : gM.IsWhole} {h3 : oM.IsWhole} {h4 : bM.IsWhole} (v2 : BitVec 32) (v8 : BitVec 32) (v31 : BitVec 32) (v57 : BitVec 32) (v62 : BitVec 32) (v63 : BitVec 32) (v64 v65 : BitVec 1)
    {Q : (BitVec 32) → sProp 𝕄} :
    iprop(invs D K ∗ levAts L lv ∗ kit c 0 ∗ place c 0 ∗ holds c (part pM (pos c + 3)) (chunk (D.P c) (pos c + 3)) ∗ owing c 6)
      ⊢ iprop((∀ r, gone c 0 ∗ holds c (part pM (pos c + 3)) (chunk (D.P c) (pos c + 3)) ∗ owing c 5 -∗ Q r) -∗ wp frame (wpE (defs₀ (F := F)) 𝒱₀ c none) Set.univ (k0_part3 (F := F) pM h0 rM h1 gM h2 oM h3 bM h4 cc0_scratch1 cc0_scratch2 cc0_scoped0 c v2 v8 v31 v57 v62 v63 v64 v65) Q) := by
  rw [k0_part3_eq_skeleton]; unfold k0_part3_skel
  simp only [semSignalWord, semWaitWord, Prog.lift, Prog.bind_op, Prog.bind_ret, Prog.pure_eq_ret, Prog.bind_assoc, wp_deviceId]
  iintro ⟨#HI, #Hlev, Hk0, Hp0, Hp, HO⟩ HQ
  iapply (wp_push D K c 0 _ _ (dev3 c) (part_of (off1 c) _) rfl (sem_send (s := 0) _) (sem_recv (s := 0) _)) $$ [Hk0 Hp0 Hp HO]
  · isplitr; · iexact HI
    isplitl [Hk0]; · iexact Hk0
    isplitl [Hp0]; · iexact Hp0
    isplitl [Hp]; · iexact Hp
    iexact HO
  iintro ⟨Hs0, HO⟩
  iapply (wp_left D K c 0 (dst := pM.slice (Rect.unit (s := S1024x1024) (k0_off1 c) S256x1024.size (k0_off1_inb c)) (fun _ => rfl)) (hdst' := View.wordExact_bits rfl) (sem_send (s := 0) _) rfl) $$ [Hs0 HO]
  · isplitr; · iexact HI
    isplitr; · iexact Hlev
    isplitl [Hs0]; · iexact Hs0
    iexact HO
  iintro ⟨Hs0, Hp, HO⟩
  rw [wp_ret]; imodintro
  iapply HQ
  isplitl [Hs0]; · iexact Hs0
  isplitl [Hp]; · iexact Hp
  iexact HO

/-- The first landing and the first addition. -/
theorem part4 (K : GSem nD τ sig → ℕ) (c : Dev nD) {h0 : pM.IsWhole} {h1 : rM.IsWhole} {h2 : gM.IsWhole} {h3 : oM.IsWhole} {h4 : bM.IsWhole} (v2 : BitVec 32) (v5 : BitVec 32) (v31 : BitVec 32) (v70 : BitVec 32)
    {Q : (Σ' (_ : BitVec 32) (_ : BitVec 32), BitVec 32) → sProp 𝕄} :
    iprop(invs D K ∗ levAts L lv ∗ gone c 0 ∗ holds c (part pM (pos c + 2)) (chunk (D.P c) (pos c + 2)) ∗ owing c 5)
      ⊢ iprop((∀ r, over c 0 ∗ holds c (slot 0) (acc0 D c) ∗ holds c (part pM (pos c + 2)) (chunk (D.P c) (pos c + 2)) ∗ owing c 5 -∗ Q r) -∗ wp frame (wpE (defs₀ (F := F)) 𝒱₀ c none) Set.univ (k0_part4 (F := F) pM h0 rM h1 gM h2 oM h3 bM h4 cc0_scratch1 cc0_scratch2 cc0_scoped0 c v2 v5 v31 v70) Q) := by
  rw [k0_part4_eq_skeleton]; unfold k0_part4_skel
  simp only [semSignalWord, semWaitWord, Prog.lift, Prog.bind_op, Prog.bind_ret, Prog.pure_eq_ret, Prog.bind_assoc, wp_deviceId]
  iintro ⟨#HI, #Hlev, Hs0, Hp, HO⟩ HQ
  iapply (wp_land D K c 0 (dst := slot 0) (hdst' := (View.wordExact_bits rfl).reshape _ _) (sem_recv (s := 0) _) rfl) $$ [Hs0 HO]
  · isplitr; · iexact HI
    isplitr; · iexact Hlev
    isplitl [Hs0]; · iexact Hs0
    iexact HO
  iintro ⟨Hs0, Hb, HO⟩
  iapply (wp_getSlot c 0 (raw0 D c) rfl) $$ [Hb]
  · iexact Hb
  iintro Hb
  iapply (wp_get c pM (pos c + 2) _ (off2_0 c)) $$ [Hp]
  · iexact Hp
  iintro Hp
  iapply (wp_getSlot c 0 (raw0 D c) rfl) $$ [Hb]
  · iexact Hb
  iintro Hb
  iapply (wp_putSlot c 0 rfl (raw0 D c)) $$ [Hb]
  · iexact Hb
  iintro Hb
  rw [pay1_eq]
  rw [wp_ret]; imodintro
  iapply HQ
  isplitl [Hs0]; · iexact Hs0
  isplitl [Hb]; · iexact Hb
  isplitl [Hp]; · iexact Hp
  iexact HO

/-- The second copy, of the partial sum, and its landing. -/
theorem part5 (K : GSem nD τ sig → ℕ) (c : Dev nD) {h0 : pM.IsWhole} {h1 : rM.IsWhole} {h2 : gM.IsWhole} {h3 : oM.IsWhole} {h4 : bM.IsWhole} (v2 : BitVec 32) (v8 : BitVec 32) (v31 : BitVec 32) (v127 : BitVec 32) (v94 : BitVec 32)
    {Q : (Vec F S1x256x1024 .f32) → sProp 𝕄} :
    iprop(invs D K ∗ levAts L lv ∗ kit c 1 ∗ place c 1 ∗ holds c (slot 0) (acc0 D c) ∗ owing c 5)
      ⊢ iprop((over c 1 ∗ holds c (slot 0) (acc0 D c) ∗ holds c (slot 1) (acc0 D (left c)) ∗ owing c 4 -∗ Q (shapeCast S1x256x1024 (acc0 D (left c)) shapeCasts_S256x1024_S1x256x1024)) -∗ wp frame (wpE (defs₀ (F := F)) 𝒱₀ c none) Set.univ (k0_part5 (F := F) pM h0 rM h1 gM h2 oM h3 bM h4 cc0_scratch1 cc0_scratch2 cc0_scoped0 c v2 v8 v31 v127 v94) Q) := by
  rw [k0_part5_eq_skeleton]; unfold k0_part5_skel
  simp only [semSignalWord, semWaitWord, Prog.lift, Prog.bind_op, Prog.bind_ret, Prog.pure_eq_ret, Prog.bind_assoc, wp_deviceId]
  iintro ⟨#HI, #Hlev, Hk1, Hp1, Hb, HO⟩ HQ
  iapply (wp_push D K c 1 _ _ (dev4 c) rfl rfl (sem_send (s := 1) _) (sem_recv (s := 1) _)) $$ [Hk1 Hp1 Hb HO]
  · isplitr; · iexact HI
    isplitl [Hk1]; · iexact Hk1
    isplitl [Hp1]; · iexact Hp1
    isplitl [Hb]; · iexact Hb
    iexact HO
  iintro ⟨Hs1, HO⟩
  iapply (wp_left D K c 1 (dst := slot 0) (hdst' := (View.wordExact_bits rfl).reshape _ _) (sem_send (s := 1) _) rfl) $$ [Hs1 HO]
  · isplitr; · iexact HI
    isplitr; · iexact Hlev
    isplitl [Hs1]; · iexact Hs1
    iexact HO
  iintro ⟨Hs1, Hb, HO⟩
  iapply (wp_land D K c 1 (dst := slot 1) (hdst' := (View.wordExact_bits rfl).reshape _ _) (sem_recv (s := 1) _) rfl) $$ [Hs1 HO]
  · isplitr; · iexact HI
    isplitr; · iexact Hlev
    isplitl [Hs1]; · iexact Hs1
    iexact HO
  iintro ⟨Hs1, Hc, HO⟩
  iapply (wp_getSlot c 1 (acc0 D (left c)) rfl) $$ [Hc]
  · iexact Hc
  iintro Hc
  rw [wp_ret]; imodintro
  iapply HQ
  isplitl [Hs1]; · iexact Hs1
  isplitl [Hb]; · iexact Hb
  isplitl [Hc]; · iexact Hc
  iexact HO

/-- The second addition. -/
theorem part6 (K : GSem nD τ sig → ℕ) (c : Dev nD) {h0 : pM.IsWhole} {h1 : rM.IsWhole} {h2 : gM.IsWhole} {h3 : oM.IsWhole} {h4 : bM.IsWhole} (v2 : BitVec 32) (v5 : BitVec 32) (v8 : BitVec 32) (v31 : BitVec 32) (v123 : BitVec 32)
    {Q : (BitVec 32) → sProp 𝕄} :
    iprop(invs D K ∗ levAts L lv ∗ holds c (slot 1) (acc0 D (left c)) ∗ holds c (part pM (pos c + 1)) (chunk (D.P c) (pos c + 1)))
      ⊢ iprop((∀ r, holds c (slot 1) (acc1 D c) ∗ holds c (part pM (pos c + 1)) (chunk (D.P c) (pos c + 1)) -∗ Q r) -∗ wp frame (wpE (defs₀ (F := F)) 𝒱₀ c none) Set.univ (k0_part6 (F := F) pM h0 rM h1 gM h2 oM h3 bM h4 cc0_scratch1 cc0_scratch2 cc0_scoped0 c v2 v5 v8 v31 v123 (shapeCast S1x256x1024 (acc0 D (left c)) shapeCasts_S256x1024_S1x256x1024)) Q) := by
  rw [k0_part6_eq_skeleton]; unfold k0_part6_skel
  simp only [semSignalWord, semWaitWord, Prog.lift, Prog.bind_op, Prog.bind_ret, Prog.pure_eq_ret, Prog.bind_assoc, wp_deviceId]
  iintro ⟨#HI, #Hlev, Hb, Hp⟩ HQ
  iapply (wp_get c pM (pos c + 1) _ (off2_1 c)) $$ [Hp]
  · iexact Hp
  iintro Hp
  iapply (wp_getSlot c 1 (acc0 D (left c)) rfl) $$ [Hb]
  · iexact Hb
  iintro Hb
  iapply (wp_putSlot c 1 rfl (acc0 D (left c))) $$ [Hb]
  · iexact Hb
  iintro Hb
  rw [pay2_eq]
  rw [wp_ret]; imodintro
  iapply HQ
  isplitl [Hb]; · iexact Hb
  iexact Hp

/-- The third copy, its landing and the third addition. -/
theorem part7 (K : GSem nD τ sig → ℕ) (c : Dev nD) {h0 : pM.IsWhole} {h1 : rM.IsWhole} {h2 : gM.IsWhole} {h3 : oM.IsWhole} {h4 : bM.IsWhole} (v2 : BitVec 32) (v8 : BitVec 32) (v31 : BitVec 32) (v178 : BitVec 32)
    {Q : (FVec F S256x1024 .f32) → sProp 𝕄} :
    iprop(invs D K ∗ levAts L lv ∗ kit c 2 ∗ place c 2 ∗ holds c (slot 1) (acc1 D c) ∗ holds c (part pM (pos c)) (chunk (D.P c) (pos c)) ∗ owing c 4)
      ⊢ iprop((over c 2 ∗ holds c (slot 1) (acc1 D c) ∗ holds c (slot 2) (acc1 D (left c)) ∗ holds c (part pM (pos c)) (chunk (D.P c) (pos c)) ∗ owing c 3 -∗ Q (acc2 D c)) -∗ wp frame (wpE (defs₀ (F := F)) 𝒱₀ c none) Set.univ (k0_part7 (F := F) pM h0 rM h1 gM h2 oM h3 bM h4 cc0_scratch1 cc0_scratch2 cc0_scoped0 c v2 v8 v31 v178) Q) := by
  rw [k0_part7_eq_skeleton]; unfold k0_part7_skel
  simp only [semSignalWord, semWaitWord, Prog.lift, Prog.bind_op, Prog.bind_ret, Prog.pure_eq_ret, Prog.bind_assoc, wp_deviceId]
  iintro ⟨#HI, #Hlev, Hk2, Hp2, Hb, Hp, HO⟩ HQ
  iapply (wp_push D K c 2 _ _ (dev5 c) rfl rfl (sem_send (s := 2) _) (sem_recv (s := 2) _)) $$ [Hk2 Hp2 Hb HO]
  · isplitr; · iexact HI
    isplitl [Hk2]; · iexact Hk2
    isplitl [Hp2]; · iexact Hp2
    isplitl [Hb]; · iexact Hb
    iexact HO
  iintro ⟨Hs2, HO⟩
  iapply (wp_left D K c 2 (dst := slot 1) (hdst' := (View.wordExact_bits rfl).reshape _ _) (sem_send (s := 2) _) rfl) $$ [Hs2 HO]
  · isplitr; · iexact HI
    isplitr; · iexact Hlev
    isplitl [Hs2]; · iexact Hs2
    iexact HO
  iintro ⟨Hs2, Hb, HO⟩
  iapply (wp_land D K c 2 (dst := slot 2) (hdst' := (View.wordExact_bits rfl).reshape _ _) (sem_recv (s := 2) _) rfl) $$ [Hs2 HO]
  · isplitr; · iexact HI
    isplitr; · iexact Hlev
    isplitl [Hs2]; · iexact Hs2
    iexact HO
  iintro ⟨Hs2, Hc, HO⟩
  iapply (wp_getSlot c 2 (acc1 D (left c)) rfl) $$ [Hc]
  · iexact Hc
  iintro Hc
  iapply (wp_get c pM (pos c) _ (off2_2 c)) $$ [Hp]
  · iexact Hp
  iintro Hp
  rw [pay3_eq, show addf (acc1 D (left c)) (chunk (D.P c) (pos c)) = acc2 D c from rfl]
  rw [wp_ret]; imodintro
  iapply HQ
  isplitl [Hs2]; · iexact Hs2
  isplitl [Hb]; · iexact Hb
  isplitl [Hc]; · iexact Hc
  isplitl [Hp]; · iexact Hp
  iexact HO

/-- The device's own chunk of the result. -/
theorem part8 (K : GSem nD τ sig → ℕ) (c : Dev nD) {h0 : pM.IsWhole} {h1 : rM.IsWhole} {h2 : gM.IsWhole} {h3 : oM.IsWhole} {h4 : bM.IsWhole} (v5 : BitVec 32)
    {Q : (Σ' (_ : BitVec 32) (_ : BitVec 1), BitVec 32) → sProp 𝕄} :
    iprop(invs D K ∗ levAts L lv ∗ holds c (slot 2) (acc1 D (left c)) ∗ holds c (part rM (pos c)) (chunk (D.R c) (pos c)) ∗ holdsG c (D.G c) ∗ some' c (part oM (pos c)))
      ⊢ iprop((∀ r, holds c (slot 2) (acc2 D c) ∗ holds c (part rM (pos c)) (chunk (D.R c) (pos c)) ∗ holdsG c (D.G c) ∗ holds c (part oM (pos c)) (fin D c (pos c)) -∗ Q r) -∗ wp frame (wpE (defs₀ (F := F)) 𝒱₀ c none) Set.univ (k0_part8 (F := F) pM h0 rM h1 gM h2 oM h3 bM h4 cc0_scratch1 cc0_scratch2 cc0_scoped0 c v5 (acc2 D c)) Q) := by
  rw [k0_part8_eq_skeleton]; unfold k0_part8_skel
  simp only [semSignalWord, semWaitWord, Prog.lift, Prog.bind_op, Prog.bind_ret, Prog.pure_eq_ret, Prog.bind_assoc, wp_deviceId]
  iintro ⟨#HI, #Hlev, Hb, Hr, Hg, Ho⟩ HQ
  iapply (wp_getSlot c 2 (acc1 D (left c)) rfl) $$ [Hb]
  · iexact Hb
  iintro Hb
  iapply (wp_putSlot c 2 rfl (acc1 D (left c))) $$ [Hb]
  · iexact Hb
  iintro Hb
  rw [pay4_eq]
  iapply (wp_getSlot c 2 (acc2 D c) rfl) $$ [Hb]
  · iexact Hb
  iintro Hb
  iapply (wp_get c rM (pos c) _ (off3 c)) $$ [Hr]
  · iexact Hr
  iintro Hr
  iapply (wp_getG c (D.G c)) $$ [Hg]
  · iexact Hg
  iintro Hg
  ihave Ho := (some_holds c (part oM (pos c))) $$ Ho
  icases Ho with ⟨%X, Ho⟩
  iapply (wp_get c oM (pos c) X (off3 c)) $$ [Ho]
  · iexact Ho
  iintro Ho
  ihave Ho := (holds_some c (part oM (pos c)) X) $$ Ho
  iapply (wp_put c oM (pos c) (off3 c)) $$ [Ho]
  · iexact Ho
  iintro Ho
  rw [show k0_pay5 (shapeCast S1x256x1024 (acc2 D c) shapeCasts_S256x1024_S1x256x1024) (chunk (D.R c) (pos c)) (D.G c) = fin D c (pos c) from (fin_pos D c).symm]
  rw [wp_ret]; imodintro
  iapply HQ
  isplitl [Hb]; · iexact Hb
  isplitl [Hr]; · iexact Hr
  isplitl [Hg]; · iexact Hg
  iexact Ho

/-- The fourth copy: the own chunk of the result goes round. -/
theorem part9 (K : GSem nD τ sig → ℕ) (c : Dev nD) {h0 : pM.IsWhole} {h1 : rM.IsWhole} {h2 : gM.IsWhole} {h3 : oM.IsWhole} {h4 : bM.IsWhole} (v2 : BitVec 32) (v5 : BitVec 32) (v8 : BitVec 32) (v31 : BitVec 32) (v249 : BitVec 32) (v255 : BitVec 32) (v254 : BitVec 1)
    {Q : (Σ' (_ : BitVec 32), BitVec 32) → sProp 𝕄} :
    iprop(invs D K ∗ levAts L lv ∗ kit c 3 ∗ place c 3 ∗ holds c (part oM (pos c)) (fin D c (pos c)) ∗ owing c 3)
      ⊢ iprop((∀ r, over c 3 ∗ holds c (part oM (pos c)) (fin D c (pos c)) ∗ holds c (part oM (pos c + 3)) (fin D c (pos c + 3)) ∗ owing c 2 -∗ Q r) -∗ wp frame (wpE (defs₀ (F := F)) 𝒱₀ c none) Set.univ (k0_part9 (F := F) pM h0 rM h1 gM h2 oM h3 bM h4 cc0_scratch1 cc0_scratch2 cc0_scoped0 c v2 v5 v8 v31 v249 v254 v255) Q) := by
  rw [k0_part9_eq_skeleton]; unfold k0_part9_skel
  simp only [semSignalWord, semWaitWord, Prog.lift, Prog.bind_op, Prog.bind_ret, Prog.pure_eq_ret, Prog.bind_assoc, wp_deviceId]
  iintro ⟨#HI, #Hlev, Hk3, Hp3, Ho, HO⟩ HQ
  iapply (wp_push D K c 3 _ _ (dev6 c) (part_of (off4_0 c) _) (by show _ = part oM (pos (right c) + 3); rw [pos_right, add31]; exact part_of (off4_0 c) _) (sem_send (s := 3) _) (sem_recv (s := 3) _)) $$ [Hk3 Hp3 Ho HO]
  · isplitr; · iexact HI
    isplitl [Hk3]; · iexact Hk3
    isplitl [Hp3]; · iexact Hp3
    isplitl [Ho]; · iexact Ho
    iexact HO
  iintro ⟨Hs3, HO⟩
  iapply (wp_left D K c 3 (dst := oM.slice (Rect.unit (s := S1024x1024) (k0_off4 c 0#32) S256x1024.size (k0_off4_inb c 0)) (fun _ => rfl)) (hdst' := View.wordExact_bits rfl) (sem_send (s := 3) _) rfl) $$ [Hs3 HO]
  · isplitr; · iexact HI
    isplitr; · iexact Hlev
    isplitl [Hs3]; · iexact Hs3
    iexact HO
  iintro ⟨Hs3, Ho, HO⟩
  iapply (wp_land D K c 3 (dst := oM.slice (Rect.unit (s := S1024x1024) (k0_off4 c 0#32) S256x1024.size (k0_off4_inb c 0)) (fun _ => rfl)) (hdst' := View.wordExact_bits rfl) (sem_recv (s := 3) _) rfl) $$ [Hs3 HO]
  · isplitr; · iexact HI
    isplitr; · iexact Hlev
    isplitl [Hs3]; · iexact Hs3
    iexact HO
  iintro ⟨Hs3, Hq, HO⟩
  rw [wp_ret]; imodintro
  iapply HQ
  isplitl [Hs3]; · iexact Hs3
  isplitl [Ho]; · iexact Ho
  isplitl [Hq]; · iexact Hq
  iexact HO

/-- The fifth copy leaves. -/
theorem part10 (K : GSem nD τ sig → ℕ) (c : Dev nD) {h0 : pM.IsWhole} {h1 : rM.IsWhole} {h2 : gM.IsWhole} {h3 : oM.IsWhole} {h4 : bM.IsWhole} (v2 : BitVec 32) (v8 : BitVec 32) (v31 : BitVec 32) (v286 : BitVec 32) (v219 : BitVec 32)
    {Q : (Σ' (_ : BitVec 32), BitVec 32) → sProp 𝕄} :
    iprop(invs D K ∗ levAts L lv ∗ kit c 4 ∗ place c 4 ∗ holds c (part oM (pos c + 3)) (fin D c (pos c + 3)) ∗ owing c 2)
      ⊢ iprop((∀ r, gone c 4 ∗ holds c (part oM (pos c + 3)) (fin D c (pos c + 3)) ∗ owing c 1 -∗ Q r) -∗ wp frame (wpE (defs₀ (F := F)) 𝒱₀ c none) Set.univ (k0_part10 (F := F) pM h0 rM h1 gM h2 oM h3 bM h4 cc0_scratch1 cc0_scratch2 cc0_scoped0 c v2 v8 v31 v286 v219) Q) := by
  rw [k0_part10_eq_skeleton]; unfold k0_part10_skel
  simp only [semSignalWord, semWaitWord, Prog.lift, Prog.bind_op, Prog.bind_ret, Prog.pure_eq_ret, Prog.bind_assoc, wp_deviceId]
  iintro ⟨#HI, #Hlev, Hk4, Hp4, Ho, HO⟩ HQ
  iapply (wp_push D K c 4 _ _ (dev7 c) (part_of (off4_1 c) _) (by show _ = part oM (pos (right c) + 2); rw [pos_right, add22]; exact part_of (off4_1 c) _) (sem_send (s := 4) _) (sem_recv (s := 4) _)) $$ [Hk4 Hp4 Ho HO]
  · isplitr; · iexact HI
    isplitl [Hk4]; · iexact Hk4
    isplitl [Hp4]; · iexact Hp4
    isplitl [Ho]; · iexact Ho
    iexact HO
  iintro ⟨Hs4, HO⟩
  iapply (wp_left D K c 4 (dst := oM.slice (Rect.unit (s := S1024x1024) (k0_off4 c 1#32) S256x1024.size (k0_off4_inb c 1)) (fun _ => rfl)) (hdst' := View.wordExact_bits rfl) (sem_send (s := 4) _) rfl) $$ [Hs4 HO]
  · isplitr; · iexact HI
    isplitr; · iexact Hlev
    isplitl [Hs4]; · iexact Hs4
    iexact HO
  iintro ⟨Hs4, Ho, HO⟩
  rw [wp_ret]; imodintro
  iapply HQ
  isplitl [Hs4]; · iexact Hs4
  isplitl [Ho]; · iexact Ho
  iexact HO

/-- The fifth landing; the sixth copy is made. -/
theorem part11 (K : GSem nD τ sig → ℕ) (c : Dev nD) {h0 : pM.IsWhole} {h1 : rM.IsWhole} {h2 : gM.IsWhole} {h3 : oM.IsWhole} {h4 : bM.IsWhole} (v2 : BitVec 32) (v5 : BitVec 32) (v8 : BitVec 32) (v31 : BitVec 32) (v318 : BitVec 32) (v245 : BitVec 32)
    {Q : (PUnit) → sProp 𝕄} :
    iprop(invs D K ∗ levAts L lv ∗ gone c 4 ∗ kit c 5 ∗ place c 5 ∗ owing c 1)
      ⊢ iprop((over c 4 ∗ away c 5 ∗ owing c 0 -∗ Q ⟨⟩) -∗ wp frame (wpE (defs₀ (F := F)) 𝒱₀ c none) Set.univ (k0_part11 (F := F) pM h0 rM h1 gM h2 oM h3 bM h4 cc0_scratch1 cc0_scratch2 cc0_scoped0 c v2 v5 v8 v31 v318 v245) Q) := by
  rw [k0_part11_eq_skeleton]; unfold k0_part11_skel
  simp only [semSignalWord, semWaitWord, Prog.lift, Prog.bind_op, Prog.bind_ret, Prog.pure_eq_ret, Prog.bind_assoc, wp_deviceId]
  iintro ⟨#HI, #Hlev, Hs4, Hk5, Hp5, HO⟩ HQ
  iapply (wp_land D K c 4 (dst := oM.slice (Rect.unit (s := S1024x1024) (k0_off4 c 1#32) S256x1024.size (k0_off4_inb c 1)) (fun _ => rfl)) (hdst' := View.wordExact_bits rfl) (sem_recv (s := 4) _) rfl) $$ [Hs4 HO]
  · isplitr; · iexact HI
    isplitr; · iexact Hlev
    isplitl [Hs4]; · iexact Hs4
    iexact HO
  iintro ⟨Hs4, Ho, HO⟩
  iapply (wp_push D K c 5 _ _ (dev8 c) (part_of (off4_2 c) _) (by show _ = part oM (pos (right c) + 1); rw [pos_right, add11]; exact part_of (off4_2 c) _) (sem_send (s := 5) _) (sem_recv (s := 5) _)) $$ [Hk5 Hp5 Ho HO]
  · isplitr; · iexact HI
    isplitl [Hk5]; · iexact Hk5
    isplitl [Hp5]; · iexact Hp5
    isplitl [Ho]; · iexact Ho
    iexact HO
  iintro ⟨Hs5, HO⟩
  rw [wp_ret]; imodintro
  iapply HQ
  isplitl [Hs4]; · iexact Hs4
  isplitl [Hs5]; · iexact Hs5
  iexact HO

end Cert.RingNorm
-- ==== Proof.Body.lean ====
/- The kernel's whole body at device `c`. -/
module

public import proofs.«01_k».proof.Proof.Parts

@[expose] public section

noncomputable section

namespace Cert.RingNorm

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F)

/-- The inputs a device reads: the four chunks of `p`, its own chunk of `resid`, and `gamma`. -/
def inputs (c : Dev nD) : sProp 𝕄 :=
  iprop((holds c (part pM (pos c)) (chunk (D.P c) (pos c)) ∗ holds c (part pM (pos c + 3)) (chunk (D.P c) (pos c + 3)) ∗ holds c (part pM (pos c + 2)) (chunk (D.P c) (pos c + 2)) ∗ holds c (part pM (pos c + 1)) (chunk (D.P c) (pos c + 1)))
    ∗ holds c (part rM (pos c)) (chunk (D.R c) (pos c)) ∗ holdsG c (D.G c))
/-- The chunks of the result. -/
def result (c : Dev nD) : sProp 𝕄 :=
  iprop(holds c (part oM (pos c)) (fin D c (pos c)) ∗ holds c (part oM (pos c + 3)) (fin D c (pos c + 3)) ∗ holds c (part oM (pos c + 2)) (fin D c (pos c + 2)) ∗ holds c (part oM (pos c + 1)) (fin D c (pos c + 1)))
/-- What a device has of the copies before them, and after them. -/
def kits (c : Dev nD) : sProp 𝕄 := iprop(kit c 0 ∗ kit c 1 ∗ kit c 2 ∗ kit c 3 ∗ kit c 4 ∗ kit c 5)
/-- The six copies of a device, all finished. -/
def overs (c : Dev nD) : sProp 𝕄 := iprop(over c 0 ∗ over c 1 ∗ over c 2 ∗ over c 3 ∗ over c 4 ∗ over c 5)

/-- The whole body: from the inputs to the result, every round over. -/
theorem body_run (K : GSem nD τ sig → ℕ) (c : Dev nD) {h0 : pM.IsWhole} {h1 : rM.IsWhole} {h2 : gM.IsWhole} {h3 : oM.IsWhole} {h4 : bM.IsWhole} {Q : PUnit → sProp 𝕄} :
    iprop(invs D K ∗ levAts L lv ∗ kit1 c ∗ kits c ∗ kit2 c ∗ lend (left c) ∗ owingAll c ∗ inputs D c ∗ some' c (part oM (pos c)))
      ⊢ iprop((atPos ER (b1Cell c) 1 ∅ 0 ∗ overs c ∗ atPos ER (b2Cell c) 1 ∅ 0 ∗ owingNone c ∗ inputs D c
            ∗ (some' c (slot 0) ∗ some' c (slot 1) ∗ some' c (slot 2)) ∗ result D c -∗ Q ⟨⟩)
          -∗ wp frame (wpE (defs₀ (F := F)) 𝒱₀ c none) Set.univ (cc0_body (F := F) pM h0 rM h1 gM h2 oM h3 bM h4 cc0_scratch1 cc0_scratch2 cc0_scoped0) Q) := by
  rw [cc0_body_eq_skeleton]; unfold cc0_body_skel
  rw [k0_part12_eq_skeleton]; unfold k0_part12_skel
  rw [k0_part1_eq_skeleton]; unfold k0_part1_skel
  simp only [semSignalWord, semWaitWord, Prog.lift, Prog.bind_op, Prog.bind_ret, Prog.pure_eq_ret, Prog.bind_assoc, wp_deviceId]
  unfold kits inputs
  iintro ⟨#HI, #Hlev, Hk, ⟨Hk0, Hk1, Hk2, Hk3, Hk4, Hk5⟩, Hm, Hl, HO, ⟨⟨Hx0, Hx3, Hx2, Hx1⟩, Hr, Hg⟩, Ho⟩ HQ
  rw [wp_bind]
  iapply (part2 D K c (h0 := h0) (h1 := h1) (h2 := h2) (h3 := h3) (h4 := h4) _ _ _ _ _ _) $$ [Hk Hl HO]
  · isplitr; · iexact HI
    isplitr; · iexact Hlev
    isplitl [Hk]; · iexact Hk
    isplitl [Hl]; · iexact Hl
    iexact HO
  iintro %r ⟨Hk, Hl, HO⟩
  icases Hl with ⟨Hl, Hn⟩
  ihave Hl := (Entails.of_eq (lend_eq c)) $$ Hl
  icases Hl with ⟨Hp0, Hp1, Hp2, Hp3, Hp4, Hp5⟩
  rw [wp_bind]
  iapply (part3 D K c (h0 := h0) (h1 := h1) (h2 := h2) (h3 := h3) (h4 := h4) _ _ _ _ _ _ _ _) $$ [Hk0 Hp0 Hx3 HO]
  · isplitr; · iexact HI
    isplitr; · iexact Hlev
    isplitl [Hk0]; · iexact Hk0
    isplitl [Hp0]; · iexact Hp0
    isplitl [Hx3]; · iexact Hx3
    iexact HO
  iintro %r ⟨Hk0, Hx3, HO⟩
  rw [wp_bind]
  iapply (part4 D K c (h0 := h0) (h1 := h1) (h2 := h2) (h3 := h3) (h4 := h4) _ _ _ _) $$ [Hk0 Hx2 HO]
  · isplitr; · iexact HI
    isplitr; · iexact Hlev
    isplitl [Hk0]; · iexact Hk0
    isplitl [Hx2]; · iexact Hx2
    iexact HO
  iintro %r ⟨Hk0, Hb0, Hx2, HO⟩
  rw [wp_bind]
  iapply (part5 D K c (h0 := h0) (h1 := h1) (h2 := h2) (h3 := h3) (h4 := h4) _ _ _ _ _) $$ [Hk1 Hp1 Hb0 HO]
  · isplitr; · iexact HI
    isplitr; · iexact Hlev
    isplitl [Hk1]; · iexact Hk1
    isplitl [Hp1]; · iexact Hp1
    isplitl [Hb0]; · iexact Hb0
    iexact HO
  iintro ⟨Hk1, Hb0, Hb1, HO⟩
  rw [wp_bind]
  iapply (part6 D K c (h0 := h0) (h1 := h1) (h2 := h2) (h3 := h3) (h4 := h4) _ _ _ _ _) $$ [Hb1 Hx1]
  · isplitr; · iexact HI
    isplitr; · iexact Hlev
    isplitl [Hb1]; · iexact Hb1
    iexact Hx1
  iintro %r ⟨Hb1, Hx1⟩
  rw [wp_bind]
  iapply (part7 D K c (h0 := h0) (h1 := h1) (h2 := h2) (h3 := h3) (h4 := h4) _ _ _ _) $$ [Hk2 Hp2 Hb1 Hx0 HO]
  · isplitr; · iexact HI
    isplitr; · iexact Hlev
    isplitl [Hk2]; · iexact Hk2
    isplitl [Hp2]; · iexact Hp2
    isplitl [Hb1]; · iexact Hb1
    isplitl [Hx0]; · iexact Hx0
    iexact HO
  iintro ⟨Hk2, Hb1, Hb2, Hx0, HO⟩
  rw [wp_bind]
  iapply (part8 D K c (h0 := h0) (h1 := h1) (h2 := h2) (h3 := h3) (h4 := h4) _) $$ [Hb2 Hr Hg Ho]
  · isplitr; · iexact HI
    isplitr; · iexact Hlev
    isplitl [Hb2]; · iexact Hb2
    isplitl [Hr]; · iexact Hr
    isplitl [Hg]; · iexact Hg
    iexact Ho
  iintro %r ⟨Hb2, Hr, Hg, Ho⟩
  rw [wp_bind]
  iapply (part9 D K c (h0 := h0) (h1 := h1) (h2 := h2) (h3 := h3) (h4 := h4) _ _ _ _ _ _ _) $$ [Hk3 Hp3 Ho HO]
  · isplitr; · iexact HI
    isplitr; · iexact Hlev
    isplitl [Hk3]; · iexact Hk3
    isplitl [Hp3]; · iexact Hp3
    isplitl [Ho]; · iexact Ho
    iexact HO
  iintro %r ⟨Hk3, Ho, Ho3, HO⟩
  rw [wp_bind]
  iapply (part10 D K c (h0 := h0) (h1 := h1) (h2 := h2) (h3 := h3) (h4 := h4) _ _ _ _ _) $$ [Hk4 Hp4 Ho3 HO]
  · isplitr; · iexact HI
    isplitr; · iexact Hlev
    isplitl [Hk4]; · iexact Hk4
    isplitl [Hp4]; · iexact Hp4
    isplitl [Ho3]; · iexact Ho3
    iexact HO
  iintro %r ⟨Hk4, Ho3, HO⟩
  rw [wp_bind]
  iapply (part11 D K c (h0 := h0) (h1 := h1) (h2 := h2) (h3 := h3) (h4 := h4) _ _ _ _ _ _) $$ [Hk4 Hk5 Hp5 HO]
  · isplitr; · iexact HI
    isplitr; · iexact Hlev
    isplitl [Hk4]; · iexact Hk4
    isplitl [Hk5]; · iexact Hk5
    isplitl [Hp5]; · iexact Hp5
    iexact HO
  iintro ⟨Hk4, Hk5, HO⟩
  iapply (wp_left D K c 5 (dst := oM.slice (Rect.unit (s := S1024x1024) (k0_off4 c 2#32) S256x1024.size (k0_off4_inb c 2)) (fun _ => rfl)) (hdst' := View.wordExact_bits rfl) (sem_send (s := 5) _) rfl) $$ [Hk5 HO]
  · isplitr; · iexact HI
    isplitr; · iexact Hlev
    isplitl [Hk5]; · iexact Hk5
    iexact HO
  iintro ⟨Hk5, Ho2, HO⟩
  iapply (wp_land D K c 5 (dst := oM.slice (Rect.unit (s := S1024x1024) (k0_off4 c 2#32) S256x1024.size (k0_off4_inb c 2)) (fun _ => rfl)) (hdst' := View.wordExact_bits rfl) (sem_recv (s := 5) _) rfl) $$ [Hk5 HO]
  · isplitr; · iexact HI
    isplitr; · iexact Hlev
    isplitl [Hk5]; · iexact Hk5
    iexact HO
  iintro ⟨Hk5, Ho1, HO⟩
  iapply (wp_raise2 D K c (dev9 c) (dev10 c) sem_bar2) $$ [Hm Hn HO]
  · isplitr; · iexact HI
    isplitl [Hm]; · iexact Hm
    isplitl [Hn]; · iexact Hn
    iexact HO
  iintro Hm
  simp only [Prog.bind_ret, Prog.pure_eq_ret]
  iapply (wp_wait2 D K c sem_bar2) $$ [Hm]
  · isplitr; · iexact HI
    iexact Hm
  iintro ⟨Hm, HO⟩
  rw [wp_ret]; imodintro
  iapply HQ
  isplitl [Hk]; · iexact Hk
  isplitl [Hk0 Hk1 Hk2 Hk3 Hk4 Hk5]
  · unfold overs
    isplitl [Hk0]; · iexact Hk0
    isplitl [Hk1]; · iexact Hk1
    isplitl [Hk2]; · iexact Hk2
    isplitl [Hk3]; · iexact Hk3
    isplitl [Hk4]; · iexact Hk4
    iexact Hk5
  isplitl [Hm]; · iexact Hm
  isplitl [HO]; · iexact HO
  isplitl [Hx0 Hx3 Hx2 Hx1 Hr Hg]
  · isplitl [Hx0 Hx3 Hx2 Hx1]
    · isplitl [Hx0]; · iexact Hx0
      isplitl [Hx3]; · iexact Hx3
      isplitl [Hx2]; · iexact Hx2
      iexact Hx1
    isplitl [Hr]; · iexact Hr
    iexact Hg
  isplitl [Hb0 Hb1 Hb2]
  · isplitl [Hb0]; · iapply (holds_some c (slot 0) _); iexact Hb0
    isplitl [Hb1]; · iapply (holds_some c (slot 1) _); iexact Hb1
    iapply (holds_some c (slot 2) _); iexact Hb2
  unfold result
  isplitl [Ho]; · iexact Ho
  isplitl [Ho3]; · iexact Ho3
  isplitl [Ho2]; · iexact Ho2
  iexact Ho1

end Cert.RingNorm
-- ==== Proof.Device.lean ====
/- The kernel's body at device `c`, from whole arrays to whole arrays. -/
module

public import proofs.«01_k».proof.Proof.Body

@[expose] public section

noncomputable section

namespace Cert.RingNorm

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F)

/-! ## Whole arrays and their chunks -/

/-- Device `c` holds all of `M`, which reads `X`. -/
abbrev full (c : Dev nD) (M : Memref sig .tc .vmem S1024x1024 .f32) (X : Vec F S1024x1024 .f32) : sProp 𝕄 :=
  owns (c : Thread nD τ) M fullShare X
/-- The whole gain array. -/
abbrev fullG (c : Dev nD) (X : Vec F S1x1024 .f32) : sProp 𝕄 := owns (c : Thread nD τ) gM fullShare X

/-- A whole array cut into its four chunks, taken from chunk `q` on. -/
theorem full_cut (c : Dev nD) (M : Memref sig .tc .vmem S1024x1024 .f32) (X : Vec F S1024x1024 .f32) (q : Fin 4) :
    full c M X ⊢ (iprop(holds c (part M q) (chunk X q) ∗ holds c (part M (q + 3)) (chunk X (q + 3))
      ∗ holds c (part M (q + 2)) (chunk X (q + 2)) ∗ holds c (part M (q + 1)) (chunk X (q + 1))) : sProp 𝕄) := by
  rw [← four_from (fun q => (holds c (part M q) (chunk X q) : sProp 𝕄)) q]
  unfold full owns
  iintro ⟨%f, %h, H⟩
  subst h
  iapply (cut c M f); iexact H

/-- Four chunks joined into the whole array. -/
theorem full_join (c : Dev nD) (M : Memref sig .tc .vmem S1024x1024 .f32) (Y : Fin 4 → Vec F S256x1024 .f32) (q : Fin 4) :
    (iprop(holds c (part M q) (Y q) ∗ holds c (part M (q + 3)) (Y (q + 3))
      ∗ holds c (part M (q + 2)) (Y (q + 2)) ∗ holds c (part M (q + 1)) (Y (q + 1))) : sProp 𝕄) ⊢ full c M (glue Y) := by
  rw [← four_from (fun q => (holds c (part M q) (Y q) : sProp 𝕄)) q]
  unfold full owns
  exact join c M Y

/-! ## The six landings of a device -/

/-- The landings' semaphores are in use. -/
def ready (c : Dev nD) : sProp 𝕄 :=
  iprop(reached ER (recvCell c 0) 0 ∗ reached ER (recvCell c 1) 0 ∗ reached ER (recvCell c 2) 0
    ∗ reached ER (recvCell c 3) 0 ∗ reached ER (recvCell c 4) 0 ∗ reached ER (recvCell c 5) 0)

/-- What a device lends its left neighbour: its receive slots and the chunks of the result it does not compute. -/
theorem lend_intro (c : Dev nD) :
    iprop(ready c ∗ (some' c (slot 0) ∗ some' c (slot 1) ∗ some' c (slot 2))
      ∗ some' c (part oM (pos c + 3)) ∗ some' c (part oM (pos c + 2)) ∗ some' c (part oM (pos c + 1)))
      ⊢ (lend (left c) : sProp 𝕄) := by
  rw [lend_eq]
  unfold place ready
  rw [right_left]
  iintro ⟨⟨H0, H1, H2, H3, H4, H5⟩, ⟨S0, S1, S2⟩, O3, O2, O1⟩
  isplitl [H0 S0]
  · isplitl [S0]; · iexact S0
    iexact H0
  isplitl [H1 S1]
  · isplitl [S1]; · iexact S1
    iexact H1
  isplitl [H2 S2]
  · isplitl [S2]; · iexact S2
    iexact H2
  isplitl [H3 O3]
  · isplitl [O3]; · iexact O3
    iexact H3
  isplitl [H4 O2]
  · isplitl [O2]; · iexact O2
    iexact H4
  isplitl [O1]; · iexact O1
  iexact H5

/-! ## The counters given back -/

/-- The counters that live only while the kernel runs, each at zero. -/
abbrev ownZero (c : Dev nD) : sProp 𝕄 :=
  Pipeline.ownSems0 (Ix := Unit) (Name := ℕ) (U := UU) (Lvl := ℕ) (Val := Elt F) (τ := τ) osem c

/-- The counters that live only while the kernel runs, by name. -/
theorem own_split (c : Dev nD) : (ownZero c : sProp 𝕄)
    = iprop(semVal (b2Cell c) 0
      ∗ semVal (sendCell c 0) 0 ∗ semVal (sendCell c 1) 0 ∗ semVal (sendCell c 2) 0
      ∗ semVal (sendCell c 3) 0 ∗ semVal (sendCell c 4) 0 ∗ semVal (sendCell c 5) 0
      ∗ semVal (recvCell c 0) 0 ∗ semVal (recvCell c 1) 0 ∗ semVal (recvCell c 2) 0
      ∗ semVal (recvCell c 3) 0 ∗ semVal (recvCell c 4) 0 ∗ semVal (recvCell c 5) 0) := by
  unfold ownZero
  rw [Pipeline.ownSems0_eq_of_list c osem [none, some (false, 0), some (false, 1), some (false, 2), some (false, 3), some (false, 4),
    some (false, 5), some (true, 0), some (true, 1), some (true, 2), some (true, 3), some (true, 4), some (true, 5)] (by decide) (by decide)]
  rfl

/-- A finished copy gives both of its counters back at zero. -/
theorem close_over (K : GSem nD τ sig → ℕ) (c : Dev nD) (s : Fin 6) :
    iprop(invs D K ∗ over c s) ⊢ (|={Set.univ}=> iprop(semVal (sendCell c s) 0 ∗ semVal (recvCell c s) 0) : sProp 𝕄) := by
  unfold over
  iintro ⟨#HI, HS, HV⟩
  imod (close D K (Finset.mem_union_right _ (mem_sc c (some (false, s))))) $$ [HS] with HS
  · isplitr; · iexact HI
    iexact HS
  imod (close D K (Finset.mem_union_right _ (mem_sc c (some (true, s))))) $$ [HV] with HV
  · isplitr; · iexact HI
    iexact HV
  imodintro
  isplitl [HS]; · iexact HS
  iexact HV

/-- Every round over, every counter is back at zero. -/
theorem close_all (K : GSem nD τ sig → ℕ) (c : Dev nD) :
    iprop(invs D K ∗ atPos ER (b1Cell c) 1 ∅ 0 ∗ overs c ∗ atPos ER (b2Cell c) 1 ∅ 0)
      ⊢ (|={Set.univ}=> iprop(semVal (b1Cell c) 0 ∗ ownZero c) : sProp 𝕄) := by
  rw [own_split]
  unfold overs
  iintro ⟨#HI, H1, ⟨C0, C1, C2, C3, C4, C5⟩, H2⟩
  imod (close D K (Finset.mem_union_left _ (mem_bar c))) $$ [H1] with H1
  · isplitr; · iexact HI
    iexact H1
  imod (close D K (Finset.mem_union_right _ (mem_sc c none))) $$ [H2] with H2
  · isplitr; · iexact HI
    iexact H2
  imod (close_over D K c 0) $$ [C0] with ⟨S0, V0⟩
  · isplitr; · iexact HI
    iexact C0
  imod (close_over D K c 1) $$ [C1] with ⟨S1, V1⟩
  · isplitr; · iexact HI
    iexact C1
  imod (close_over D K c 2) $$ [C2] with ⟨S2, V2⟩
  · isplitr; · iexact HI
    iexact C2
  imod (close_over D K c 3) $$ [C3] with ⟨S3, V3⟩
  · isplitr; · iexact HI
    iexact C3
  imod (close_over D K c 4) $$ [C4] with ⟨S4, V4⟩
  · isplitr; · iexact HI
    iexact C4
  imod (close_over D K c 5) $$ [C5] with ⟨S5, V5⟩
  · isplitr; · iexact HI
    iexact C5
  imodintro
  isplitl [H1]; · iexact H1
  isplitl [H2]; · iexact H2
  isplitl [S0]; · iexact S0
  isplitl [S1]; · iexact S1
  isplitl [S2]; · iexact S2
  isplitl [S3]; · iexact S3
  isplitl [S4]; · iexact S4
  isplitl [S5]; · iexact S5
  isplitl [V0]; · iexact V0
  isplitl [V1]; · iexact V1
  isplitl [V2]; · iexact V2
  isplitl [V3]; · iexact V3
  isplitl [V4]; · iexact V4
  iexact V5

/-! ## The body -/

/-- What the protocol gives a device before its body. -/
def opened (K : GSem nD τ sig → ℕ) (c : Dev nD) : sProp 𝕄 :=
  iprop(invs D K ∗ kit1 c ∗ kits c ∗ kit2 c ∗ ready c)

/-- The receive slots, whatever they hold. -/
def scratch (c : Dev nD) : sProp 𝕄 :=
  iprop(∃ f : Buf (Elt F) ((c : Thread nD τ).loc cc0_scratch0), ((c : Thread nD τ).loc cc0_scratch0) ↦{fullShare} f)

/-- The arrays a device's body works on, the result reading `Y`. -/
def arraysAt (c : Dev nD) (Y : Vec F S1024x1024 .f32) : sProp 𝕄 :=
  iprop(full c pM (D.P c) ∗ full c rM (D.R c) ∗ fullG c (D.G c) ∗ full c oM Y)

/-- A device's body: the result is computed, the inputs and the counters are as before. -/
theorem device_run (K : GSem nD τ sig → ℕ) (c : Dev nD) (Y : Vec F S1024x1024 .f32) {h0 : pM.IsWhole} {h1 : rM.IsWhole} {h2 : gM.IsWhole} {h3 : oM.IsWhole}
    {h4 : bM.IsWhole} {Q : PUnit → sProp 𝕄} :
    iprop(opened D K c ∗ levAts L lv ∗ owingAll c ∗ arraysAt D c Y ∗ scratch c)
      ⊢ iprop((semVal (b1Cell c) 0 ∗ ownZero c ∗ owingNone c ∗ arraysAt D c (out D c) ∗ scratch c -∗ Q ⟨⟩)
          -∗ wp frame (wpE (defs₀ (F := F)) 𝒱₀ c none) Set.univ (cc0_body (F := F) pM h0 rM h1 gM h2 oM h3 bM h4 cc0_scratch1 cc0_scratch2 cc0_scoped0) Q) := by
  unfold opened arraysAt scratch
  iintro ⟨⟨#HI, Hk1, Hk, Hk2, Hrd⟩, #Hlev, HO, ⟨Hp, Hr, Hg, Ho⟩, Hb⟩ HQ
  ihave Hp := (full_cut c pM (D.P c) (pos c)) $$ Hp
  ihave Hr := (full_cut c rM (D.R c) (pos c)) $$ Hr
  icases Hr with ⟨Hr0, Hr3, Hr2, Hr1⟩
  ihave Ho := (full_cut c oM Y (pos c)) $$ Ho
  icases Ho with ⟨Ho0, Ho3, Ho2, Ho1⟩
  ihave Ho0 := (holds_some c _ _) $$ Ho0
  ihave Ho3 := (holds_some c _ _) $$ Ho3
  ihave Ho2 := (holds_some c _ _) $$ Ho2
  ihave Ho1 := (holds_some c _ _) $$ Ho1
  ihave Hb := (slots_cut c) $$ Hb
  iapply (wp_fupd _ _ _ _ Q)
  iapply (body_run D K c (h0 := h0) (h1 := h1) (h2 := h2) (h3 := h3) (h4 := h4)) $$ [Hk1 Hk Hk2 Hrd HO Hp Hr0 Hg Ho0 Ho3 Ho2 Ho1 Hb]
  · isplitr; · iexact HI
    isplitr; · iexact Hlev
    isplitl [Hk1]; · iexact Hk1
    isplitl [Hk]; · iexact Hk
    isplitl [Hk2]; · iexact Hk2
    isplitl [Hrd Ho3 Ho2 Ho1 Hb]
    · iapply (lend_intro c)
      isplitl [Hrd]; · iexact Hrd
      isplitl [Hb]; · iexact Hb
      isplitl [Ho3]; · iexact Ho3
      isplitl [Ho2]; · iexact Ho2
      iexact Ho1
    isplitl [HO]; · iexact HO
    isplitr [Ho0]
    · unfold inputs
      isplitl [Hp]; · iexact Hp
      isplitl [Hr0]; · iexact Hr0
      unfold holdsG fullG owns
      iexact Hg
    iexact Ho0
  iintro ⟨H1, Hov, H2, HO, Hin, Hb, Ho⟩
  unfold inputs result
  icases Hin with ⟨Hp, Hr0, Hg⟩
  ihave Hp := (full_join c pM (fun q => chunk (D.P c) q) (pos c)) $$ Hp
  ihave Ho := (full_join c oM (fin D c) (pos c)) $$ Ho
  ihave Hr := (full_join c rM (fun q => chunk (D.R c) q) (pos c)) $$ [Hr0 Hr3 Hr2 Hr1]
  · isplitl [Hr0]; · iexact Hr0
    isplitl [Hr3]; · iexact Hr3
    isplitl [Hr2]; · iexact Hr2
    iexact Hr1
  rw [glue_chunk, glue_chunk]
  ihave Hb := (slots_join c) $$ Hb
  imod (close_all D K c) $$ [H1 Hov H2] with ⟨H1, Hz⟩
  · isplitr; · iexact HI
    isplitl [H1]; · iexact H1
    isplitl [Hov]; · iexact Hov
    iexact H2
  imodintro
  iapply HQ
  isplitl [H1]; · iexact H1
  isplitl [Hz]; · iexact Hz
  isplitl [HO]; · iexact HO
  isplitr [Hb]
  · isplitl [Hp]; · iexact Hp
    isplitl [Hr]; · iexact Hr
    isplitl [Hg]; · unfold holdsG fullG owns; iexact Hg
    unfold out; iexact Ho
  iexact Hb

end Cert.RingNorm
-- ==== Proof.Open.lean ====
/- What a device is dealt at launch, and how the counters that live only while the kernel runs enter the protocol. -/
module

public import proofs.«01_k».proof.Proof.Device

@[expose] public section

noncomputable section

namespace Cert.RingNorm

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F)

/-- What a device is dealt of the first barrier, -/
def seed1 (c : Dev nD) : sProp 𝕄 :=
  iprop(atPos ER (b1Cell c) 0 ∅ 0 ∗ cred (tallyAt (b1Cell c) () 2) ∗ dutyTok ER (b1Cell (left c)) 0 false
    ∗ dutyTok ER (b1Cell (right c)) 0 true)
/-- of the second, -/
def seed2 (c : Dev nD) : sProp 𝕄 :=
  iprop(openTok ER (b2Cell c) ∗ cred (tallyAt (b2Cell c) () 2) ∗ dutyTok ER (b2Cell (left c)) 0 false
    ∗ dutyTok ER (b2Cell (right c)) 0 true)
/-- and of copy `s`. -/
def seed (c : Dev nD) (s : Fin 6) : sProp 𝕄 :=
  iprop(openTok ER (sendCell c s) ∗ openTok ER (recvCell c s) ∗ dutyTok ER (sendCell c s) 0 false
    ∗ dutyTok ER (recvCell (right c) s) 0 false ∗ cred (tallyAt (recvCell c s) () N))

/-- All a device is dealt. -/
def dealt (K : GSem nD τ sig → ℕ) (c : Dev nD) : sProp 𝕄 :=
  iprop(invs D K ∗ seed1 c ∗ seed2 c ∗ bigSep Finset.univ (seed c))

/-- A product over the six copies, written out. -/
theorem six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- A counter at zero and the right to put it in use begin its cell's one round. -/
theorem enter (K : GSem nD τ sig → ℕ) (c : Dev nD) (o : Option (Bool × Fin 6)) :
    iprop(invs D K ∗ openTok ER ((c : Thread nD τ), osem o) ∗ semVal ((c : Thread nD τ), osem o) 0)
      ⊢ (|={Set.univ}=> iprop(atPos ER ((c : Thread nD τ), osem o) 0 ∅ 0 ∗ reached ER ((c : Thread nD τ), osem o) 0) : sProp 𝕄) :=
  (sep_mono_left (inv_cell D K (Finset.mem_union_right _ (mem_sc c o)))).trans
    (Rounds.cell_open ER (ring D) (Set.mem_univ (K ((c : Thread nD τ), osem o))))

/-- Both counters of one copy, at zero, join the protocol. -/
theorem enter_copy (K : GSem nD τ sig → ℕ) (c : Dev nD) (s : Fin 6) :
    iprop(invs D K ∗ seed c s ∗ semVal (sendCell c s) 0 ∗ semVal (recvCell c s) 0)
      ⊢ (|={Set.univ}=> iprop(kit c s ∗ reached ER (recvCell c s) 0) : sProp 𝕄) := by
  unfold seed kit
  iintro ⟨#HI, ⟨HoS, HoV, HtS, HtV, Hc⟩, HS, HV⟩
  imod (enter D K c (some (false, s))) $$ [HoS HS] with ⟨HaS, HrS⟩
  · isplitr; · iexact HI
    isplitl [HoS]; · iexact HoS
    iexact HS
  imod (enter D K c (some (true, s))) $$ [HoV HV] with ⟨HaV, HrV⟩
  · isplitr; · iexact HI
    isplitl [HoV]; · iexact HoV
    iexact HV
  imodintro
  isplitr [HrV]
  · isplitl [HaS]; · iexact HaS
    isplitl [HaV]; · iexact HaV
    isplitl [HrS]; · iexact HrS
    isplitl [HtS]; · iexact HtS
    isplitl [HtV]; · iexact HtV
    iexact Hc
  iexact HrV

/-- With its counters at zero, a device enters the protocol. -/
theorem enter_all (K : GSem nD τ sig → ℕ) (c : Dev nD) :
    iprop(dealt D K c ∗ ownZero c) ⊢ (|={Set.univ}=> opened D K c : sProp 𝕄) := by
  rw [own_split]
  unfold dealt seed1 seed2 opened kit1 kits kit2 ready
  rw [six]
  iintro ⟨⟨#HI, ⟨H1, H2, H3, H4⟩, ⟨Ho, G2, G3, G4⟩, C0, C1, C2, C3, C4, C5⟩, Hz, S0, S1, S2, S3, S4, S5, V0, V1, V2, V3, V4, V5⟩
  imod (enter D K c none) $$ [Ho Hz] with ⟨Ga, #Gr⟩
  · isplitr; · iexact HI
    isplitl [Ho]; · iexact Ho
    iexact Hz
  imod (enter_copy D K c 0) $$ [C0 S0 V0] with ⟨C0, R0⟩
  · isplitr; · iexact HI
    isplitl [C0]; · iexact C0
    isplitl [S0] <;> iassumption
  imod (enter_copy D K c 1) $$ [C1 S1 V1] with ⟨C1, R1⟩
  · isplitr; · iexact HI
    isplitl [C1]; · iexact C1
    isplitl [S1] <;> iassumption
  imod (enter_copy D K c 2) $$ [C2 S2 V2] with ⟨C2, R2⟩
  · isplitr; · iexact HI
    isplitl [C2]; · iexact C2
    isplitl [S2] <;> iassumption
  imod (enter_copy D K c 3) $$ [C3 S3 V3] with ⟨C3, R3⟩
  · isplitr; · iexact HI
    isplitl [C3]; · iexact C3
    isplitl [S3] <;> iassumption
  imod (enter_copy D K c 4) $$ [C4 S4 V4] with ⟨C4, R4⟩
  · isplitr; · iexact HI
    isplitl [C4]; · iexact C4
    isplitl [S4] <;> iassumption
  imod (enter_copy D K c 5) $$ [C5 S5 V5] with ⟨C5, R5⟩
  · isplitr; · iexact HI
    isplitl [C5]; · iexact C5
    isplitl [S5] <;> iassumption
  imodintro
  isplitr; · iexact HI
  isplitl [H1 H2 H3 H4]
  · isplitl [H1]; · iexact H1
    isplitl [H2]; · iexact H2
    isplitl [H3]; · iexact H3
    isplitl [H4]; · iexact H4
    iexact Gr
  isplitl [C0 C1 C2 C3 C4 C5]
  · isplitl [C0]; · iexact C0
    isplitl [C1]; · iexact C1
    isplitl [C2]; · iexact C2
    isplitl [C3]; · iexact C3
    isplitl [C4]; · iexact C4
    iexact C5
  isplitl [Ga G2 G3 G4]
  · isplitl [Ga]; · iexact Ga
    isplitl [G2]; · iexact G2
    isplitl [G3]; · iexact G3
    iexact G4
  isplitl [R0]; · iexact R0
  isplitl [R1]; · iexact R1
  isplitl [R2]; · iexact R2
  isplitl [R3]; · iexact R3
  isplitl [R4]; · iexact R4
  iexact R5

end Cert.RingNorm
-- ==== Proof.Region.lean ====
/- The kernel's call on every device: what it finds, what it leaves, and what it owes. -/
module

public import proofs.«01_k».proof.Proof.Open
public import Idealize.ShloMosaic.Lib.Pipeline.RegionTalk
public import Idealize.ShloMosaic.Lib.Pipeline.ValueKit.Geometry

@[expose] public section

noncomputable section

namespace Cert.RingNorm

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The contents -/

/-- The contents before the kernel's call: the two reshapes are done. -/
def mid (c : Dev nD) : Valuation τ sig (Elt F) := StableHlo.after hostOps0 fun b => m (c, b)

/-- The arrays the kernel is called on. -/
def given : Data F :=
  ⟨fun c => iblk m c 0 t0_0, fun c => iblk m c 1 t0_0, fun c => iblk m c 2 t0_0⟩

/-- What the protocol holds around the kernel's one point. -/
def around (c : Dev nD) (started : Prop) [Decidable started] : sProp 𝕄 :=
  if started then iprop(semVal (b1Cell c) 0 ∗ ownZero c ∗ scratch c ∗ ∃ r, prngReg c r)
  else iprop((∃ K, opened (given m) K c) ∗ levAts L lv ∗ scratch c ∗ ∃ r, prngReg c r)

/-- The call on device `c`. -/
def dat (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out (given m) c
    | ⟨_ + 4, h⟩ => absurd h (Nat.not_lt.2 (Nat.le_add_left _ _))
  Φ t := around m c (t.val ≠ 0)
  q _ := fullShare
  owed t := if t.val = 0 then owed c else 0

/-- The body finds the partial sums' block staged. -/
theorem find0 (c : Dev nD) (t : Fin cfg0.N) (d) : (dat m c).before 0 t d = iblk m c 0 t :=
  ((dat m c).before_in_eq_fetched 0 rfl (fun _ => rfl) (fun _ _ _ => rfl) (fun _ => rfl) t d).trans rfl
/-- It finds the residual staged. -/
theorem find1 (c : Dev nD) (t : Fin cfg0.N) (d) : (dat m c).before 1 t d = iblk m c 1 t :=
  ((dat m c).before_in_eq_fetched 1 rfl (fun _ => rfl) (fun _ _ _ => rfl) (fun _ => rfl) t d).trans rfl
/-- It finds the gain staged. -/
theorem find2 (c : Dev nD) (t : Fin cfg0.N) (d) : (dat m c).before 2 t d = iblk m c 2 t :=
  ((dat m c).before_in_eq_fetched 2 rfl (fun _ => rfl) (fun _ _ _ => rfl) (fun _ => rfl) t d).trans rfl

/-! ## What is owed -/

/-- Before the body everything is still owed. -/
theorem owed_first (c : Dev nD) (t : Fin (cfg0.N + 1)) (h : t.val = 0) : (dat m c).owed t = owed c := if_pos h
/-- After it nothing is. -/
theorem owed_last (c : Dev nD) (t : Fin (cfg0.N + 1)) (h : t.val ≠ 0) : (dat m c).owed t = 0 := if_neg h

/-- Before the body the device owes all its raises. -/
theorem owes_before (c : Dev nD) (t : Fin (cfg0.N + 1)) (h : t.val = 0) : ((dat m c).owesAt () t : sProp 𝕄) ⊢ owingAll c := by
  unfold Dat.owesAt Pipeline.owesWithin owingAll
  rw [owed_first m c t h]
  iintro ⟨%W, -, H⟩
  iexists W; iexact H
/-- After it the device owes none. -/
theorem owes_after (c : Dev nD) (t : Fin (cfg0.N + 1)) (h : t.val ≠ 0) : owingNone c ⊢ ((dat m c).owesAt () t : sProp 𝕄) := by
  unfold Dat.owesAt Pipeline.owesWithin Dat.bound owingNone
  rw [owed_last m c t h]
  iintro ⟨%W, H⟩
  iexists W
  isplitr; · ipureintro; exact fun _ _ => Or.inl trivial
  iexact H

/-! ## The body -/

/-- The call's body, as its launch asks for it. -/
theorem body_sound (c : Dev nD) : BodyObligation (dat m c) (defs₀ (F := F)) 𝒱₀ () Set.univ := fun t => by
  obtain rfl : t = t0_0 := fin_N0 t
  rw [bigSep_W0, bigSep_W0]
  show iprop(around m c ((t0_0.castSucc : Fin (cfg0.N + 1)).val ≠ 0) ∗ (dat m c).owesAt () t0_0.castSucc
      ∗ (∃ d, full c pM ((dat m c).before 0 t0_0 d)) ∗ (∃ d, full c rM ((dat m c).before 1 t0_0 d))
      ∗ (∃ d, fullG c ((dat m c).before 2 t0_0 d)) ∗ (∃ d, full c oM ((dat m c).before 3 t0_0 d)))
    ⊢ wp frame (wpE (defs₀ (F := F)) 𝒱₀ c none) Set.univ
      (cc0_body (F := F) pM (hstage0_0 0) rM (hstage0_1 0) gM (hstage0_2 0) oM (hstage0_3 0) bM (Memref.isWhole_whole _) cc0_scratch1 cc0_scratch2 cc0_scoped0)
      (fun _ => iprop(around m c ((t0_0.succ : Fin (cfg0.N + 1)).val ≠ 0) ∗ (dat m c).owesAt () t0_0.succ
        ∗ full c pM (iblk m c 0 t0_0) ∗ full c rM (iblk m c 1 t0_0) ∗ fullG c (iblk m c 2 t0_0) ∗ full c oM (out (given m) c)))
  unfold around
  rw [if_neg (show ¬((t0_0.castSucc : Fin (cfg0.N + 1)).val ≠ 0) from fun h => h rfl),
    if_pos (show (t0_0.succ : Fin (cfg0.N + 1)).val ≠ 0 from Nat.succ_ne_zero _)]
  iintro ⟨⟨⟨%K, Hop⟩, #Hlev, Hs, Hr⟩, HO, ⟨%d0, H0⟩, ⟨%d1, H1⟩, ⟨%d2, H2⟩, ⟨%d3, H3⟩⟩
  rw [find0, find1, find2]
  ihave HO := (owes_before m c t0_0.castSucc rfl) $$ HO
  iapply (device_run (given m) K c ((dat m c).before 3 t0_0 d3) (h0 := hstage0_0 0) (h1 := hstage0_1 0) (h2 := hstage0_2 0) (h3 := hstage0_3 0)
    (h4 := Memref.isWhole_whole _)) $$ [Hop HO H0 H1 H2 H3 Hs]
  · isplitl [Hop]; · iexact Hop
    isplitr; · iexact Hlev
    isplitl [HO]; · iexact HO
    isplitr [Hs]
    · unfold arraysAt
      isplitl [H0]; · iexact H0
      isplitl [H1]; · iexact H1
      isplitl [H2]; · iexact H2
      iexact H3
    iexact Hs
  unfold arraysAt
  iintro ⟨Hb, Hz, HO, ⟨H0, H1, H2, H3⟩, Hs⟩
  isplitl [Hb Hz Hs Hr]
  · isplitl [Hb]; · iexact Hb
    isplitl [Hz]; · iexact Hz
    isplitl [Hs]; · iexact Hs
    iexact Hr
  isplitl [HO]
  · iapply (owes_after m c t0_0.succ (Nat.succ_ne_zero _)); iexact HO
  isplitl [H0]; · iexact H0
  isplitl [H1]; · iexact H1
  isplitl [H2]; · iexact H2
  iexact H3

end Cert.RingNorm
-- ==== Proof.Dues.lean ====
/- What the devices owe at launch, as what each is due. -/
module

public import proofs.«01_k».proof.Proof.Region

@[expose] public section

noncomputable section

namespace Cert.RingNorm

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-- If every device owes `k` to the device `tgt` sends it to, each is due `k`. -/
theorem due_of (sm : SemLoc sig) (tgt back : Dev nD → Dev nD) (h1 : ∀ c, tgt (back c) = c) (h2 : ∀ c, back (tgt c) = c) (k : ℕ) (c : Dev nD) :
    (Pipeline.launchCred (fun d => tallyAt ((tgt d : Thread nD τ), sm) () k) c : sProp 𝕄) ⊢ cred (tallyAt ((c : Thread nD τ), sm) () k) := by
  refine (Pipeline.launchCred_elim _ c sm).trans (Entails.of_eq (congrArg cred ?_))
  have each (d : Dev nD) : (tallyAt ((tgt d : Thread nD τ), sm) () k : CellTallies nD τ sig Unit) ((c : Thread nD τ), sm) () = if d = back c then k else 0 := by
    rw [tallyAt_apply]
    by_cases h : d = back c
    · rw [if_pos h, if_pos ⟨by rw [h, h1], rfl⟩]
    · rw [if_neg h, if_neg]
      rintro ⟨e, -⟩
      have e' : c = tgt d := congrArg (fun g : GSem nD τ sig => g.1.1) e
      exact h (by rw [e', h2])
  show _ = tallyOn _ _
  refine congrArg _ (Finsupp.ext fun u => ?_)
  cases u
  rw [Pipeline.launchCredit_owing, Finsupp.single_eq_same, Finset.sum_congr rfl fun d _ => each d, Finset.sum_ite_eq' Finset.univ (back c) fun _ => k,
    if_pos (Finset.mem_univ _)]

/-- What each device owes its right neighbour is what each is due from its left. -/
theorem due_right (sm : SemLoc sig) (k : ℕ) (c : Dev nD) :
    (Pipeline.launchCred (fun d => tallyAt ((right d : Thread nD τ), sm) () k) c : sProp 𝕄) ⊢ cred (tallyAt ((c : Thread nD τ), sm) () k) :=
  due_of sm right left right_left left_right k c
/-- What each device owes its left neighbour is what each is due from its right. -/
theorem due_left (sm : SemLoc sig) (k : ℕ) (c : Dev nD) :
    (Pipeline.launchCred (fun d => tallyAt ((left d : Thread nD τ), sm) () k) c : sProp 𝕄) ⊢ cred (tallyAt ((c : Thread nD τ), sm) () k) :=
  due_of sm left right left_right right_left k c

/-- Being due one unit twice is being due two. -/
theorem two (g : GSem nD τ sig) :
    (iprop(cred (tallyAt g () 1) ∗ cred (tallyAt g () 1)) : sProp 𝕄) ⊢ cred (tallyAt g () 2) :=
  (cred_add _ _).2.trans (Entails.of_eq (congrArg cred (tallyAt_add g () 1 1)))

/-- A device is due two units of each barrier, and six landings. -/
theorem dues (c : Dev nD) : (Pipeline.launchCred owed c : sProp 𝕄)
    ⊢ iprop(cred (tallyAt (b1Cell c) () 2) ∗ cred (tallyAt (b2Cell c) () 2) ∗ bigSep Finset.univ fun s : Fin 6 => cred (tallyAt (recvCell c s) () N)) := by
  rw [six]
  have e : (owed : Dev nD → CellTallies nD τ sig Unit) = fun d => ((((((((tallyAt (b2Cell (right d)) () 1 + tallyAt (b2Cell (left d)) () 1)
      + tallyAt (recvCell (right d) 5) () N) + tallyAt (recvCell (right d) 4) () N) + tallyAt (recvCell (right d) 3) () N)
      + tallyAt (recvCell (right d) 2) () N) + tallyAt (recvCell (right d) 1) () N) + tallyAt (recvCell (right d) 0) () N)
      + tallyAt (b1Cell (right d)) () 1) + tallyAt (b1Cell (left d)) () 1 := rfl
  rw [e]
  repeat rw [Pipeline.launchCred_add]
  iintro ⟨⟨⟨⟨⟨⟨⟨⟨⟨A1, A2⟩, C5⟩, C4⟩, C3⟩, C2⟩, C1⟩, C0⟩, B1⟩, B2⟩
  isplitl [B1 B2]
  · iapply (two (b1Cell c))
    isplitl [B1]; · iapply (due_right (.reg bar1) 1 c); iexact B1
    iapply (due_left (.reg bar1) 1 c); iexact B2
  isplitl [A1 A2]
  · iapply (two (b2Cell c))
    isplitl [A1]; · iapply (due_right (.reg bar2) 1 c); iexact A1
    iapply (due_left (.reg bar2) 1 c); iexact A2
  isplitl [C0]; · iapply (due_right (.dma (recvS 0)) N c); iexact C0
  isplitl [C1]; · iapply (due_right (.dma (recvS 1)) N c); iexact C1
  isplitl [C2]; · iapply (due_right (.dma (recvS 2)) N c); iexact C2
  isplitl [C3]; · iapply (due_right (.dma (recvS 3)) N c); iexact C3
  isplitl [C4]; · iapply (due_right (.dma (recvS 4)) N c); iexact C4
  iapply (due_right (.dma (recvS 5)) N c); iexact C5

end Cert.RingNorm
-- ==== Proof.Deal.lean ====
/- The launch: every cell's invariant is made, and every device dealt its part of the protocol. -/
module

public import proofs.«01_k».proof.Proof.Dues

@[expose] public section

noncomputable section

namespace Cert.RingNorm

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (D : Data F)

/-! ## The tokens -/

/-- The counters of one device that the protocol uses. -/
def asem : Option (Option (Bool × Fin 6)) → SemLoc sig
  | none => .reg bar1
  | some o => osem o
/-- Different copies and sides use different semaphores. -/
theorem asem_inj : Function.Injective asem := by decide

/-- Two tokens to a counter, one for each duty. -/
def tokAt : Dev nD × Option (Option (Bool × Fin 6)) × Bool ↪ GSem nD τ sig × ℕ × Bool :=
  ⟨fun x => (((x.1 : Thread nD τ), asem x.2.1), 0, x.2.2), fun a b h => by
    obtain ⟨a1, a2, a3⟩ := a
    obtain ⟨b1, b2, b3⟩ := b
    obtain ⟨h1, h2⟩ := Prod.mk.inj h
    obtain ⟨h3, h4⟩ := Prod.mk.inj h1
    obtain rfl : a1 = b1 := (Prod.mk.inj h3).1
    obtain rfl : a2 = b2 := asem_inj h4
    obtain rfl : a3 = b3 := (Prod.mk.inj h2).2
    rfl⟩
/-- Every duty token that the launch mints: a cell, a round and which of its two payers. -/
def toks : Finset (GSem nD τ sig × ℕ × Bool) := Finset.univ.map tokAt

/-- The entry barrier's cells are none of the scoped ones. -/
theorem cells_apart : Disjoint barCells scCells := by
  rw [Finset.disjoint_left]
  rintro g h1 h2
  obtain ⟨c, -, rfl⟩ := Finset.mem_map.mp h1
  obtain ⟨⟨d, o⟩, -, h⟩ := Finset.mem_map.mp h2
  have h' : osem o = .reg bar1 := congrArg Prod.snd h
  exact absurd h' ((by decide : ∀ o : Option (Bool × Fin 6), osem o ≠ .reg bar1) o)

/-- A product over the closing barrier's counter and both sides of the six copies, written out. -/
theorem thirteen (Φ : Option (Bool × Fin 6) → sProp 𝕄) : bigSep Finset.univ Φ
    = iprop(Φ none ∗ (bigSep Finset.univ fun s : Fin 6 => Φ (some (false, s))) ∗ bigSep Finset.univ fun s : Fin 6 => Φ (some (true, s))) := by
  have e : (Finset.univ : Finset (Option (Bool × Fin 6)))
      = insert none (Finset.univ.map (⟨fun x => some x, Option.some_injective _⟩ : Bool × Fin 6 ↪ Option (Bool × Fin 6))) := by decide
  rw [e, bigSep_insert (by decide), bigSep_map, bigSep_univ_prod, both]
  rfl

/-- The same with the entry barrier's counter in front. -/
theorem fourteen (Φ : Option (Option (Bool × Fin 6)) → sProp 𝕄) : bigSep Finset.univ Φ
    = iprop(Φ none ∗ bigSep Finset.univ fun o : Option (Bool × Fin 6) => Φ (some o)) := by
  have e : (Finset.univ : Finset (Option (Option (Bool × Fin 6))))
      = insert none (Finset.univ.map (⟨fun x => some x, Option.some_injective _⟩ : Option (Bool × Fin 6) ↪ Option (Option (Bool × Fin 6)))) := by decide
  rw [e, bigSep_insert (by decide), bigSep_map]
  rfl

/-- The tokens of one device's own counters. -/
def minted (c : Dev nD) : sProp 𝕄 :=
  iprop((dutyTok ER (b1Cell c) 0 false ∗ dutyTok ER (b2Cell c) 0 false)
    ∗ (dutyTok ER (b1Cell c) 0 true ∗ dutyTok ER (b2Cell c) 0 true)
    ∗ (bigSep Finset.univ fun s : Fin 6 => dutyTok ER (sendCell c s) 0 false)
    ∗ bigSep Finset.univ fun s : Fin 6 => dutyTok ER (recvCell c s) 0 false)
/-- The tokens of the duties one device performs. -/
def mine (c : Dev nD) : sProp 𝕄 :=
  iprop((dutyTok ER (b1Cell (left c)) 0 false ∗ dutyTok ER (b2Cell (left c)) 0 false)
    ∗ (dutyTok ER (b1Cell (right c)) 0 true ∗ dutyTok ER (b2Cell (right c)) 0 true)
    ∗ (bigSep Finset.univ fun s : Fin 6 => dutyTok ER (sendCell c s) 0 false)
    ∗ bigSep Finset.univ fun s : Fin 6 => dutyTok ER (recvCell (right c) s) 0 false)

/-- All minted tokens are, device by device, the tokens that device's cells mint. -/
theorem minted_intro : bigSep toks (fun x => (dutyTok ER x.1 x.2.1 x.2.2 : sProp 𝕄)) ⊢ bigSep Finset.univ fun c : Dev nD => minted c := by
  unfold toks
  rw [bigSep_map, bigSep_univ_prod]
  refine bigSep_mono fun c _ => ?_
  show bigSep Finset.univ (fun x : Option (Option (Bool × Fin 6)) × Bool => (dutyTok ER ((c : Thread nD τ), asem x.1) 0 x.2 : sProp 𝕄)) ⊢ _
  rw [bigSep_univ_prod, fourteen, thirteen]
  simp only [both]
  rw [bigSep_sep', bigSep_sep']
  unfold minted
  iintro ⟨⟨F1, T1⟩, ⟨F2, T2⟩, ⟨FS, -⟩, ⟨FV, -⟩⟩
  isplitl [F1 F2]
  · isplitl [F1]; · iexact F1
    iexact F2
  isplitl [T1 T2]
  · isplitl [T1]; · iexact T1
    iexact T2
  isplitl [FS]; · iexact FS
  iexact FV

/-- Each token goes to the device whose duty it is. -/
theorem around_ring : (bigSep Finset.univ fun c : Dev nD => (minted c : sProp 𝕄)) ⊢ bigSep Finset.univ fun c : Dev nD => mine c := by
  unfold minted mine
  simp only [bigSep_sep']
  rw [bigSep_univ_equiv turn.symm (fun c : Dev nD => (dutyTok ER (b1Cell c) 0 false : sProp 𝕄)),
    bigSep_univ_equiv turn.symm (fun c : Dev nD => (dutyTok ER (b2Cell c) 0 false : sProp 𝕄)),
    bigSep_univ_equiv turn (fun c : Dev nD => (dutyTok ER (b1Cell c) 0 true : sProp 𝕄)),
    bigSep_univ_equiv turn (fun c : Dev nD => (dutyTok ER (b2Cell c) 0 true : sProp 𝕄)),
    bigSep_univ_equiv turn (fun c : Dev nD => (bigSep Finset.univ fun s : Fin 6 => dutyTok ER (recvCell c s) 0 false : sProp 𝕄))]
  exact BI.Entails.refl _

/-- Two products over the devices make one of pairs. -/
theorem zip2 (Φ Ψ : Dev nD → sProp 𝕄) : iprop(bigSep Finset.univ Φ ∗ bigSep Finset.univ Ψ) ⊢ bigSep Finset.univ fun c => iprop(Φ c ∗ Ψ c) :=
  Entails.of_eq (bigSep_sep' _ _ _).symm
/-- A product of pairs over the devices makes two. -/
theorem unzip2 (Φ Ψ : Dev nD → sProp 𝕄) : (bigSep Finset.univ fun c => iprop(Φ c ∗ Ψ c)) ⊢ iprop(bigSep Finset.univ Φ ∗ bigSep Finset.univ Ψ) :=
  Entails.of_eq (bigSep_sep' _ _ _)

/-! ## What a device gets -/

/-- The parts of `dealt` one device takes for itself. -/
def share (c : Dev nD) : sProp 𝕄 :=
  iprop(atPos ER (b1Cell c) 0 ∅ 0 ∗ (bigSep Finset.univ fun o : Option (Bool × Fin 6) => openTok ER ((c : Thread nD τ), osem o)) ∗ mine c)
/-- Everything due to one device at launch. -/
def dueAll (c : Dev nD) : sProp 𝕄 :=
  iprop(cred (tallyAt (b1Cell c) () 2) ∗ cred (tallyAt (b2Cell c) () 2) ∗ bigSep Finset.univ fun s : Fin 6 => cred (tallyAt (recvCell c s) () N))

/-- The invariants, a device's share and what it is due are all it is dealt. -/
theorem dealt_intro (K : GSem nD τ sig → ℕ) (c : Dev nD) : iprop(invs D K ∗ share c ∗ dueAll c) ⊢ (dealt D K c : sProp 𝕄) := by
  unfold share mine dueAll dealt seed1 seed2 seed
  rw [thirteen, bigSep_sep', bigSep_sep', bigSep_sep', bigSep_sep']
  iintro ⟨#HI, ⟨Ha, ⟨Ob, OS, OV⟩, ⟨L1, L2⟩, ⟨R1, R2⟩, TS, TV⟩, C1, C2, CV⟩
  isplitr; · iexact HI
  isplitl [Ha C1 L1 R1]
  · isplitl [Ha]; · iexact Ha
    isplitl [C1]; · iexact C1
    isplitl [L1]; · iexact L1
    iexact R1
  isplitl [Ob C2 L2 R2]
  · isplitl [Ob]; · iexact Ob
    isplitl [C2]; · iexact C2
    isplitl [L2]; · iexact L2
    iexact R2
  isplitl [OS]; · iexact OS
  isplitl [OV]; · iexact OV
  isplitl [TS]; · iexact TS
  isplitl [TV]; · iexact TV
  iexact CV

/-- From the first barriers' counters at zero: one map of names, and every device's share. -/
theorem deal : iprop((bigSep Finset.univ fun c : Dev nD => semVal (b1Cell c) 0) ∗ BI.own (ER (launchOf barCells scCells toks)))
    ⊢ (|={Set.univ}=> iprop(∃ K, invs D K ∗ bigSep Finset.univ share) : sProp 𝕄) := by
  have hv : bigSep Finset.univ (fun c : Dev nD => (semVal (b1Cell c) 0 : sProp 𝕄)) ⊢ bigSep barCells (fun g => (semVal g 0 : sProp 𝕄)) :=
    Entails.of_eq (bigSep_map (s := Finset.univ) barAt (Φ := fun g : GSem nD τ sig => (semVal g 0 : sProp 𝕄))).symm
  have ha : bigSep barCells (fun g => (atPos ER g 0 ∅ 0 : sProp 𝕄)) ⊢ bigSep Finset.univ (fun c : Dev nD => (atPos ER (b1Cell c) 0 ∅ 0 : sProp 𝕄)) :=
    Entails.of_eq (bigSep_map (s := Finset.univ) barAt (Φ := fun g : GSem nD τ sig => (atPos ER g 0 ∅ 0 : sProp 𝕄)))
  have ho : bigSep scCells (fun g => (openTok ER g : sProp 𝕄))
      ⊢ bigSep Finset.univ (fun c : Dev nD => bigSep Finset.univ fun o : Option (Bool × Fin 6) => (openTok ER ((c : Thread nD τ), osem o) : sProp 𝕄)) :=
    Entails.of_eq (by unfold scCells; rw [bigSep_map, bigSep_univ_prod]; rfl)
  iintro ⟨Hv, Hu⟩
  imod (Rounds.fund_launch ER (ring D) cells_apart (fun g _ h => h) toks) $$ [Hv Hu] with ⟨%K, -, Hinv, Hr, Hat, Hopen, Htok⟩
  · isplitl [Hv]
    · iapply hv $$ Hv
    · iexact Hu
  imodintro
  iexists K
  unfold invs
  isplitl [Hinv Hr]
  · isplitl [Hinv]; · iexact Hinv
    iexact Hr
  unfold share
  iapply (zip2 (F := F))
  isplitl [Hat]; · iapply ha $$ Hat
  iapply (zip2 (F := F))
  isplitl [Hopen]; · iapply ho $$ Hopen
  iapply (around_ring (F := F))
  iapply (minted_intro (F := F)) $$ Htok

end Cert.RingNorm
-- ==== Proof.Launch.lean ====
/- The whole program: its call on the mesh, and the run from launch to end. -/
module

public import proofs.«01_k».proof.Proof.Deal
public import Idealize.ShloMosaic.Lib.Quiescent

@[expose] public section

noncomputable section

namespace Cert.RingNorm

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- The contents at the end: the result is written. -/
def fin' (c : Dev nD) : Valuation τ sig (Elt F) := Function.update (mid m c) (Proc.devRef .tc main_v3) (out (given m) c)

/-- The call has no prefetched table. -/
abbrev adm : (p : Fin 1) → (pcfgs (F := F) p).Adm := fun p => (cfgs p).toPCfg_adm
/-- The one call's contents and debts. -/
abbrev dats : (p : Fin 1) → (c : Dev nD) → Dat τ (Elt F) Unit ℕ UU ℕ (Pipeline.pin (pcfgs (F := F)) adm p) c := fun _ => dat m

/-- The buffers the program keeps. -/
abbrev kept : Finset (DevRef τ sig) := Pipeline.ucRefs τ sig
/-- Those the call is not given. -/
abbrev rest : Finset (DevRef τ sig) := kept \ Pipeline.arrRefs (τ := τ) spec0

/-- The call's arrays are among the buffers carried through the program. -/
theorem arrs_kept : Pipeline.arrRefs (τ := τ) spec0 ⊆ kept := Pipeline.arrRefs_sub_ucRefs _ (by decide)

/-- The result array is one of the call's arrays. -/
theorem v3_arr : Proc.devRef .tc main_v3 ∈ Pipeline.arrRefs (τ := τ) spec0 := by decide

/-- The call changes nothing but its arrays. -/
theorem fin_rest (c : Dev nD) : ∀ b ∈ rest, fin' m c b = mid m c b := fun b hb => by
  unfold fin'
  rw [Function.update_of_ne]
  rintro rfl
  exact (Finset.mem_sdiff.mp hb).2 v3_arr

/-- The result array ends with what the ring leaves. -/
theorem fin_v3 (c : Dev nD) : fin' m c (Proc.devRef .tc main_v3) = out (given m) c := Function.update_self ..
/-- Every other buffer ends as the call found it. -/
theorem fin_ne (c : Dev nD) {b : DevRef τ sig} (h : b ≠ Proc.devRef .tc main_v3) : fin' m c b = mid m c b := Function.update_of_ne h ..

/-! ## The call -/

/-- What a device owes lies above every level at which the pipeline waits. -/
theorem low (c : Dev nD) (g : GSem nD τ sig) (i : Unit) (h : 0 < owed c g i) : i ∈ L g ∧ 0 < lv g i := by
  have h' : 0 < (owedN c 6 g i + (tallyAt (b1Cell (right c)) () 1 : CellTallies nD τ sig Unit) g i)
      + (tallyAt (b1Cell (left c)) () 1 : CellTallies nD τ sig Unit) g i := h
  rcases Nat.add_pos_iff_pos_or_pos.mp h' with h' | h'
  · rcases Nat.add_pos_iff_pos_or_pos.mp h' with h' | h'
    · have hp := owedN_pos c 6 (Nat.le_refl 6) g i h'
      exact ⟨by rw [hp.1]; exact Finset.mem_singleton_self _, lt_of_lt_of_le (by decide) hp.2⟩
    · rw [tally_of_pos h', L_tc]
      exact ⟨Finset.mem_singleton_self _, Nat.one_pos⟩
  · rw [tally_of_pos h', L_tc]
    exact ⟨Finset.mem_singleton_self _, Nat.one_pos⟩

/-- The pipeline's own semaphores are the first of the table. -/
theorem staged_low : ∀ (w : Fin 4) (s : Fin (spec0 w).nbuf), ((spec0 w).sem s).val ≤ 8 := by decide

/-- What is owed at a point of the call lies above the pipeline's waits. -/
theorem cut_ok (c : Dev nD) (t : Fin (cfg0.N + 1)) (g : GSem nD τ sig) (i : Unit) (h : 0 < (dat m c).owed t g i) : i ∈ L g ∧ 0 < lv g i := by
  by_cases h0 : t.val = 0
  · rw [owed_first m c t h0] at h; exact low c g i h
  · rw [owed_last m c t h0] at h; exact absurd h (Nat.lt_irrefl 0)

/-- What a device brings to the call. -/
def before' (c : Dev nD) : sProp 𝕄 := iprop(∃ K, dealt (given m) K c)
/-- What it has once the counters that live in the call have joined the protocol. -/
def within (c : Dev nD) : sProp 𝕄 := iprop((∃ K, opened (given m) K c) ∗ levAts L lv)
/-- What it takes from the call: the entry barrier's counter at zero. -/
def after' (c : Dev nD) : sProp 𝕄 := semVal (b1Cell c) 0

/-- On entry the counters that live in the call join the protocol. -/
theorem opening (c : Dev nD) : iprop(before' m c ∗ ownZero c ∗ levAts L lv) ⊢ (|={Set.univ}=> within m c : sProp 𝕄) := by
  unfold before' within
  iintro ⟨⟨%K, HK⟩, Hz, #Hlev⟩
  imod (enter_all (given m) K c) $$ [HK Hz] with HK
  · isplitl [HK]; · iexact HK
    iexact Hz
  imodintro
  isplitl [HK]
  · iexists K; iexact HK
  iexact Hlev

/-- Before the body: the protocol's share, the scratch buffer and the random register. -/
theorem Φ_first (c : Dev nD) : (dat m c).Φ 0 = iprop((∃ K, opened (given m) K c) ∗ levAts L lv ∗ scratch c ∗ ∃ r, prngReg c r) := by
  show around m c ((0 : Fin (cfg0.N + 1)).val ≠ 0) = _
  unfold around
  exact if_neg fun h => h rfl
/-- After the body: every counter at zero, the scratch buffer and the random register. -/
theorem Φ_last (c : Dev nD) : (dat m c).Φ (Fin.last cfg0.N) = iprop(semVal (b1Cell c) 0 ∗ ownZero c ∗ scratch c ∗ ∃ r, prngReg c r) := by
  show around m c ((Fin.last cfg0.N).val ≠ 0) = _
  unfold around
  exact if_pos (Nat.succ_ne_zero _)

/-- What is brought to the call is what stands before the body. -/
theorem entering (c : Dev nD) (W : Valuation τ sig (Elt F)) :
    iprop(Pipeline.scopedRest spec0 c ∗ (∃ r, prngReg c r) ∗ StableHlo.held (c.tc : Thread nD τ) ∅ W ∗ within m c) ⊢ ((dat m c).Φ 0 : sProp 𝕄) := by
  rw [show (dat m c).Φ 0 = iprop((∃ K, opened (given m) K c) ∗ levAts L lv ∗ scratch c ∗ ∃ r, prngReg c r) from Φ_first m c, scopedRest0_eq]
  unfold within scratch
  iintro ⟨Hs, Hp, -, HK, #Hlev⟩
  isplitl [HK]; · iexact HK
  isplitr; · iexact Hlev
  isplitl [Hs]; · iexact Hs
  iexact Hp

/-- What stands after the body is what the call gives back. -/
theorem leaving (c : Dev nD) (W : Valuation τ sig (Elt F)) : ((dat m c).Φ (Fin.last cfg0.N) : sProp 𝕄)
    ⊢ iprop(Pipeline.scopedRest spec0 c ∗ (∃ r, prngReg c r) ∗ StableHlo.held (c.tc : Thread nD τ) ∅ W ∗ Pipeline.ownSems0 osem c ∗ after' c) := by
  rw [show (dat m c).Φ (Fin.last cfg0.N) = iprop(semVal (b1Cell c) 0 ∗ ownZero c ∗ scratch c ∗ ∃ r, prngReg c r) from Φ_last m c,
    scopedRest0_eq, StableHlo.held, bigSep_empty]
  unfold after' scratch
  iintro ⟨Hb, Hz, Hs, Hp⟩
  isplitl [Hs]; · iexact Hs
  isplitl [Hp]; · iexact Hp
  isplitr; · iempintro
  isplitl [Hz]; · iexact Hz
  iexact Hb

/-- The call owns its arrays whole. -/
theorem shares (c : Dev nD) (w : Fin cfg0.W) : (dat m c).share w = fullShare := by unfold Dat.share; split <;> rfl

/-- The result array after the call is what the ring leaves. -/
theorem array_out (c : Dev nD) : (dat m c).arrAt 3 cfg0.N = out (given m) c := by
  refine (dat m c).arrAt_eq_of_after_last 3 t0_0 (by decide +kernel) (out (given m) c) fun j => ?_
  rfl

/-- So every array of the call ends as claimed. -/
theorem arrays_after (c : Dev nD) : ∀ w, (dat m c).arrAt w cfg0.N = fin' m c (Proc.devRef .tc (Pipeline.arrRef spec0 w))
  | ⟨0, _⟩ => ((dat m c).arrAt_in 0 rfl _).trans (fin_ne m c (b := Proc.devRef .tc (Pipeline.arrRef spec0 0)) (by decide)).symm
  | ⟨1, _⟩ => ((dat m c).arrAt_in 1 rfl _).trans (fin_ne m c (b := Proc.devRef .tc (Pipeline.arrRef spec0 1)) (by decide)).symm
  | ⟨2, _⟩ => ((dat m c).arrAt_in 2 rfl _).trans (fin_ne m c (b := Proc.devRef .tc (Pipeline.arrRef spec0 2)) (by decide)).symm
  | ⟨3, _⟩ => (array_out m c).trans (fin_v3 m c).symm
  | ⟨_ + 4, h⟩ => absurd h (Nat.not_lt.2 (Nat.le_add_left _ _))

set_option backward.isDefEq.respectTransparency.types false in
/-- The call, from the contents it finds to those it leaves. -/
def call : Pipeline.RegionSeg (pcfgs (F := F)) adm (dats m) () defs₀ 𝒱₀ L lv 0 :=
  Pipeline.RegionSeg.ofTalk (pcfgs (F := F)) adm (dats m) () defs₀ 𝒱₀ L lv 0 osem (by decide : Pipeline.OwnSemFacts spec0 osem)
    ∅ rest (Finset.empty_subset _) launch0.toP rfl (fun c => (body_sound m c).loose)
    (fun _ => 0) owed (fun c => (owed_first m c 0 rfl).trans (zero_add _).symm) (fun c => owed_last m c (Fin.last _) (Nat.succ_ne_zero _))
    (fun _ => rfl) (fun c w => shares m c w)
    (mid m) (fin' m) (fun c b hb => fin_rest m c b (Finset.mem_sdiff.mp hb).1)
    (before' m) after' (within m) after' (opening m) (fun c => entering m c _) (fun c => leaving m c _)
    (fun c => by iintro H; imodintro; iexact H)
    (fun _ => 0)
    ⟨fun c w s => by rw [L_tc]; exact Finset.mem_singleton_self _, fun c w s => Nat.le_of_eq (Nat.sub_eq_zero_of_le (staged_low w s)), fun c t g i h => cut_ok m c t g i h⟩
    (fun _ => iprop(emp))
    (fun c w => rfl) (fun c w => arrays_after m c w)

end Cert.RingNorm
-- ==== Proof.Run.lean ====
/- The run of the whole program, from launch to end. -/
module

public import proofs.«01_k».proof.Proof.Launch

@[expose] public section

noncomputable section

namespace Cert.RingNorm

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The contents at launch. -/
def start (c : Dev nD) : Valuation τ sig (Elt F) := fun b => m (c, b)

/-- What rides beside the buffers up to the call. -/
def riding (c : Dev nD) : sProp 𝕄 := iprop(before' m c ∗ (∃ r, prngReg c r) ∗ ∃ W, owes (c : Thread nD τ) (owed c) W)

/-- The two reshapes. -/
def host : Pipeline.HostSeg (Name := ℕ) (U := UU) (pcfgs (F := F)) defs₀ 𝒱₀ L lv :=
  Pipeline.HostSeg.ofOps _ _ _ _ _ kept hostOps0
    (fun op h => Pipeline.sub_ucRefs op (List.forall_iff_forall_mem.mp hostOps0_sub op h))
    (List.forall_iff_forall_mem.mp hostOps0_fresh) (start m) (riding m)

/-- The program: two reshapes on the host, then the call. -/
def segs : List (Pipeline.Seg (pcfgs (F := F)) adm (dats m) () defs₀ 𝒱₀ L lv) := [.host (host m), .region (call m)]

/-- What a device has at the start. -/
abbrev atStart (c : Dev nD) : sProp 𝕄 := iprop(StableHlo.held (c : Thread nD τ) kept (start m c) ∗ riding m c)
/-- What it has at the end. -/
abbrev atEnd (c : Dev nD) : sProp 𝕄 := iprop(StableHlo.held (c : Thread nD τ) kept (fin' m c) ∗ semVal (b1Cell c) 0)

/-- What the reshapes leave is what the call needs. -/
theorem call_pre (c : Dev nD) : iprop(StableHlo.held (c : Thread nD τ) kept (mid m c) ∗ riding m c) ⊢ (call m).pre c := by
  show _ ⊢ iprop(StableHlo.held (c.tc : Thread nD τ) (Pipeline.arrRefs (τ := τ) spec0) (mid m c) ∗ (∃ r, prngReg c r)
    ∗ (StableHlo.held (c.tc : Thread nD τ) rest (mid m c) ∗ emp) ∗ before' m c ∗ ∃ Wd, owes (c : Thread nD τ) (0 + owed c) Wd)
  rw [StableHlo.held_sub_split _ arrs_kept, zero_add]
  unfold riding
  iintro ⟨⟨Ha, Hr⟩, HK, Hp, HO⟩
  isplitl [Ha]; · iexact Ha
  isplitl [Hp]; · iexact Hp
  isplitl [Hr]
  · isplitl [Hr]; · iexact Hr
    iempintro
  isplitl [HK]; · iexact HK
  iexact HO

/-- What the call leaves is what the end needs. -/
theorem call_post (c : Dev nD) : (call m).post c
    ⊢ iprop(atEnd m c ∗ ∃ W, owes (c : Thread nD τ) (0 : CellTallies nD τ sig Unit) W) := by
  show iprop(StableHlo.held (c.tc : Thread nD τ) (Pipeline.arrRefs (τ := τ) spec0) (fin' m c) ∗ (∃ r, prngReg c r)
    ∗ (StableHlo.held (c.tc : Thread nD τ) rest (fin' m c) ∗ emp) ∗ after' c ∗ ∃ Wd, owes (c : Thread nD τ) (0 : CellTallies nD τ sig Unit) Wd) ⊢ _
  unfold atEnd after'
  rw [StableHlo.held_sub_split _ arrs_kept]
  iintro ⟨Ha, -, ⟨Hr, -⟩, Hb, HO⟩
  isplitr [HO]
  · isplitr [Hb]
    · isplitl [Ha]; · iexact Ha
      iexact Hr
    iexact Hb
  iexact HO

/-! ## The launch -/

/-- The protocol's records at launch, kept on device 0 until they are dealt. -/
def parked (c : Dev nD) : sProp 𝕄 := if c = 0 then BI.own (ER (launchOf barCells scCells toks)) else iprop(emp)
/-- The parked tokens of all devices are the launch's element. -/
theorem parked_all : bigSep Finset.univ (parked (F := F)) = BI.own (ER (launchOf barCells scCells toks)) := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- The ghost state at launch. -/
def birth : UU :=
  (initOf (Pipeline.cells (Pipeline.pin (pcfgs (F := F)) adm) cellOf_inj) (Pipeline.launchToks (Pipeline.pin (pcfgs (F := F)) adm) cellOf_inj),
    launchOf barCells scCells toks)

/-- The one counter that outlives the call is the entry barrier's. -/
theorem sems_kept (c : Dev nD) : (unscopedSems0 c : sProp 𝕄) = semVal (b1Cell c) 0 := by
  unfold unscopedSems0
  rw [show (Finset.univ.filter fun sm : SemLoc sig => ¬ sm.isScoped .tc) = {SemLoc.reg bar1} from by decide, BI.bigSep_singleton]

/-- The buffers that outlive the call, in the form the host operations use. -/
theorem bufs_kept (c : Dev nD) (W : Valuation τ sig (Elt F)) :
    (unscopedBufs c (fun b => W b) : sProp 𝕄) = StableHlo.held (c : Thread nD τ) kept W := by
  unfold unscopedBufs StableHlo.held kept Pipeline.ucRefs StableHlo.tcRefs
  rw [Finset.filter_map, BI.bigSep_map]
  rfl

/-- What of a device's holdings at launch the protocol has no part in. -/
def own' (c : Dev nD) : sProp 𝕄 :=
  iprop(StableHlo.held (c : Thread nD τ) kept (start m c) ∗ dueAll c ∗ (∃ r, prngReg c r) ∗ owes (c : Thread nD τ) (owed c) ∅)

/-- One device's start, from its share and its own memory. -/
theorem one_start (K : GSem nD τ sig → ℕ) (c : Dev nD) : iprop(invs (given m) K ∗ (share c ∗ own' m c)) ⊢ (atStart m c : sProp 𝕄) := by
  unfold own' atStart riding before'
  iintro ⟨#HI, Hs, Hh, Hd, Hp, HO⟩
  isplitl [Hh]; · iexact Hh
  isplitl [Hs Hd]
  · iexists K
    iapply (dealt_intro (given m) K c)
    isplitr; · iexact HI
    isplitl [Hs]; · iexact Hs
    iexact Hd
  isplitl [Hp]; · iexact Hp
  iexists ∅; iexact HO

/-- All devices' starts, from the memory and the ghost state at launch. -/
theorem launch_all :
    iprop((bigSep Finset.univ fun c : Dev nD => iprop(unscopedBufs c (fun b => m ((c : Thread nD τ).loc b)) ∗ unscopedSems0 c
          ∗ owes (c : Thread nD τ) (owed c) ∅ ∗ Pipeline.launchCred owed c ∗ prngReg c (ρ c) ∗ parked c)) ∗ levAts L lv)
      ⊢ (|={Set.univ}=> bigSep Finset.univ (atStart m) : sProp 𝕄) := by
  have one (c : Dev nD) : iprop(unscopedBufs c (fun b => m ((c : Thread nD τ).loc b)) ∗ unscopedSems0 c
        ∗ owes (c : Thread nD τ) (owed c) ∅ ∗ Pipeline.launchCred owed c ∗ prngReg c (ρ c) ∗ parked c)
      ⊢ (iprop(own' m c ∗ (semVal (b1Cell c) 0 ∗ parked c)) : sProp 𝕄) := by
    rw [show unscopedBufs c (fun b => m ((c : Thread nD τ).loc b)) = StableHlo.held (c : Thread nD τ) kept (start m c) from bufs_kept c (start m c),
      sems_kept]
    unfold own'
    iintro ⟨Hh, Hus, HO, Hcr, Hp, HG⟩
    isplitl [Hh HO Hcr Hp]
    · isplitl [Hh]; · iexact Hh
      isplitl [Hcr]
      · unfold dueAll
        iapply (dues c); iexact Hcr
      isplitl [Hp]; · iexists (ρ c); iexact Hp
      iexact HO
    isplitl [Hus]; · iexact Hus
    iexact HG
  iintro ⟨H, -⟩
  ihave H := (show (bigSep Finset.univ fun c : Dev nD => iprop(unscopedBufs c (fun b => m ((c : Thread nD τ).loc b)) ∗ unscopedSems0 c
          ∗ owes (c : Thread nD τ) (owed c) ∅ ∗ Pipeline.launchCred owed c ∗ prngReg c (ρ c) ∗ parked c))
      ⊢ (bigSep Finset.univ fun c : Dev nD => iprop(own' m c ∗ (semVal (b1Cell c) 0 ∗ parked c)) : sProp 𝕄) from bigSep_mono fun c _ => one c) $$ H
  ihave H := (unzip2 (own' m) fun c => iprop(semVal (b1Cell c) 0 ∗ parked c)) $$ H
  icases H with ⟨HB, H⟩
  ihave H := (unzip2 (fun c => (semVal (b1Cell c) 0 : sProp 𝕄)) parked) $$ H
  icases H with ⟨Hv, HG⟩
  ihave Hu := (Entails.of_eq (parked_all (F := F))) $$ HG
  imod (deal (given m)) $$ [Hv Hu] with ⟨%K, #HI, Hs⟩
  · isplitl [Hv]; · iexact Hv
    iexact Hu
  imodintro
  iapply (bigSep_with_persistent (R := invs (given m) K) (Φ := fun c => iprop(share c ∗ own' m c)) fun c _ => one_start m K c)
  isplitr; · iexact HI
  iapply (zip2 (F := F))
  isplitl [Hs]; · iexact Hs
  iexact HB

/-- The only counter that does not live in the call is the entry barrier's. -/
theorem sem_kept : ∀ sm : SemLoc sig, sm.isScoped .tc = false → sm = .reg bar1 := by decide

/-- The buffers that are kept, one by one. -/
theorem held_kept (c : Dev nD) (W : Valuation τ sig (Elt F)) : (StableHlo.held (c : Thread nD τ) kept W : sProp 𝕄)
    = iprop(((Memref.whole main_arg0).view.loc (c : Thread nD τ) ↦{fullShare} W main_arg0)
      ∗ ((Memref.whole main_arg1).view.loc (c : Thread nD τ) ↦{fullShare} W main_arg1)
      ∗ ((Memref.whole main_arg2).view.loc (c : Thread nD τ) ↦{fullShare} W main_arg2)
      ∗ ((Memref.whole main_v3).view.loc (c : Thread nD τ) ↦{fullShare} W main_v3)
      ∗ ((Memref.whole main_v1).view.loc (c : Thread nD τ) ↦{fullShare} W main_v1)
      ∗ ((Memref.whole main_v2).view.loc (c : Thread nD τ) ↦{fullShare} W main_v2)) := by
  unfold StableHlo.held
  rw [bigSep_eq_bigSepL_of_eq [Proc.devRef .tc main_arg0, Proc.devRef .tc main_arg1, Proc.devRef .tc main_arg2, Proc.devRef .tc main_v3,
    Proc.devRef .tc main_v1, Proc.devRef .tc main_v2] (by decide) (by decide)]
  rfl

/-- An argument ends with what the host operations left in it. -/
theorem fin_arg (c : Dev nD) (b : Ref sig .tc) (h : Proc.devRef (τ := τ) .tc b ≠ Proc.devRef .tc main_v3) : fin' m c b = V m c b := fin_ne m c h

set_option backward.isDefEq.respectTransparency.types false in
/-- From any memory with zero counters, every weakly fair execution of the program on all the devices ends; at the end the
    arguments are unchanged, the result is `out`, and every counter is zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v3) = out (given m) c) ∧ r.2.sem = fun _ => 0) :=
  Pipeline.θ_run_regions_kit_sems (pcfgs (F := F)) adm (dats m) () cellOf_inj EP defs₀ 𝒱₀ L lv m ρ main (segs m)
    (fun c Q => by rw [main_segs adm (dats m) () 𝒱₀ L lv (host m) (call m) rfl c]; exact BI.Entails.refl _)
    (by simp only [segs, Pipeline.Seg.pipes_host, Pipeline.Seg.pipes_region, Pipeline.Seg.pipes_nil]; decide)
    (O₀ := owed) (hL := L_of_ne) (G := parked) (u₀ := birth)
    (hu₀ := by
      unfold birth
      iintro Hu
      ihave H := (ownU_pair _ _) $$ Hu
      icases H with ⟨HP, HX⟩
      imodintro
      isplitl [HP]; · iexact HP
      rw [parked_all]; iexact HX)
    (T₀ := atStart m) (Tₙ := atEnd m)
    (hch := ⟨fun c => .rfl, fun c => call_pre m c, fun c => call_post m c⟩)
    (hinit := launch_all m ρ)
    (QY := fun c s => (s.mem ((Memref.whole main_arg0).view.loc (c : Thread nD τ)) = fin' m c main_arg0
        ∧ s.mem ((Memref.whole main_arg1).view.loc (c : Thread nD τ)) = fin' m c main_arg1
        ∧ s.mem ((Memref.whole main_arg2).view.loc (c : Thread nD τ)) = fin' m c main_arg2
        ∧ s.mem ((Memref.whole main_v3).view.loc (c : Thread nD τ)) = fin' m c main_v3)
      ∧ s.sem (b1Cell c) = 0)
    (hfin := fun c s' => by
      dsimp only [atEnd]; rw [held_kept]
      iintro ⟨⟨⟨H0, H1, H2, H3, -, -⟩, Hb⟩, HSI⟩
      icombine HSI H0 gives %h0
      icombine HSI H1 gives %h1
      icombine HSI H2 gives %h2
      icombine HSI H3 gives %h3
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3⟩, by simpa using hb⟩
      iexact HSI)
    (hQ := fun s h hs => ⟨fun c => by
        obtain ⟨⟨h0, h1, h2, h3⟩, -⟩ := h c
        rw [fin_arg m c main_arg0 (by decide), V_main_arg0] at h0
        rw [fin_arg m c main_arg1 (by decide), V_main_arg1] at h1
        rw [fin_arg m c main_arg2 (by decide), V_main_arg2] at h2
        exact ⟨h0, h1, h2, h3.trans (fin_v3 m c)⟩,
      sem_eq_zero hs fun c sm hsm => by
        obtain rfl := sem_kept sm hsm
        exact (h c).2⟩)

end Cert.RingNorm
-- ==== Proof.Norm.lean ====
/- What the kernel's parts are on the extended reals, element by element. -/
module

public import proofs.«01_k».proof.Proof.Run
public import Idealize.ShloMosaic.Lib.Pointwise.Tactic
public import Idealize.ShloMosaic.Lib.Pointwise.Reduce
public import Idealize.ShloMosaic.Lib.Layout
public import Idealize.ShloMosaic.Lib.Pointwise.Reshape

@[expose] public section

namespace Cert.RingNorm

open Idealize.ShloMosaic Idealize.ShloMosaic.TcCoe Idealize.ShloMosaic.StableHlo Idealize.SL.Sem Cert.KernelIdeal

/-- One element of a chunk that the kernel normalises: the sum with the residual, times the reciprocal root of its
    row's mean square plus a small constant, times the gain. -/
theorem own_apply (y : FVec Ideal S1x256x1024 .f32) (r : FVec Ideal S256x1024 .f32) (g : FVec Ideal S1x1024 .f32) (a : Fin 256) (b : Fin 1024) :
    Cert.KernelIdeal.Gen.k0_pay5 (F := Ideal) y r g (ix2 a b)
      = (y (ix3 0 a b) + r (ix2 a b)) * Ideal.rsqrt (Ideal.div (∑ k : Fin 1024, (y (ix3 0 a k) + r (ix2 a k)) * (y (ix3 0 a k) + r (ix2 a k)))
          (Ideal.ofBits .f32 0x44800000#32) + Ideal.ofBits .f32 0x358637BD#32) * g (ix2 0 b) := by
  unfold Cert.KernelIdeal.Gen.k0_pay5
  pointwise

/-- The block of partial sums that the call finds is the reshaped first argument. -/
theorem block_part (m : (ℓ : Loc nD τ sig) → Buf (Elt Ideal) ℓ) (c : Dev nD) :
    (given (F := Ideal) m).P c = Cert.KernelIdeal.Gen.V m c main_v1 :=
  funext fun j => congrArg (Cert.KernelIdeal.Gen.V m c main_v1) (funext fun a => by
    match a with
    | 0 => exact Fin.ext (by show 0 * 1024 + 1 * (j 0).val = (j 0).val; omega)
    | 1 => exact Fin.ext (by show 0 * 1024 + 1 * (j 1).val = (j 1).val; omega))

/-- The residual that the call finds is the second argument. -/
theorem block_residual (m : (ℓ : Loc nD τ sig) → Buf (Elt Ideal) ℓ) (c : Dev nD) :
    (given (F := Ideal) m).R c = Cert.KernelIdeal.Gen.V m c main_arg1 :=
  funext fun j => congrArg (Cert.KernelIdeal.Gen.V m c main_arg1) (funext fun a => by
    match a with
    | 0 => exact Fin.ext (by show 0 * 1024 + 1 * (j 0).val = (j 0).val; omega)
    | 1 => exact Fin.ext (by show 0 * 1024 + 1 * (j 1).val = (j 1).val; omega))

/-- The gain that the call finds is the reshaped third argument. -/
theorem block_gain (m : (ℓ : Loc nD τ sig) → Buf (Elt Ideal) ℓ) (c : Dev nD) :
    (given (F := Ideal) m).G c = Cert.KernelIdeal.Gen.V m c main_v2 :=
  funext fun j => congrArg (Cert.KernelIdeal.Gen.V m c main_v2) (funext fun a => by
    match a with
    | 0 => exact Fin.ext (by show 0 * 1 + 1 * (j 0).val = (j 0).val; omega)
    | 1 => exact Fin.ext (by show 0 * 1024 + 1 * (j 1).val = (j 1).val; omega))

/-- The first reshape drops the leading axis of the first argument. -/
theorem V_part (m : (ℓ : Loc nD τ sig) → Buf (Elt Ideal) ℓ) (c : Dev nD) :
    Cert.KernelIdeal.Gen.V m c main_v1
      = shapeCast S1024x1024 (show S1x1024x1024.Idx → EReal from m ((c : Thread nD τ).loc main_arg0))
          Cert.KernelIdeal.Gen.shapeCasts_S1x1024x1024_S1024x1024 := by
  unfold Cert.KernelIdeal.Gen.V
  after_results
  rfl

/-- The second reshape gives the third argument a leading axis. -/
theorem V_gain (m : (ℓ : Loc nD τ sig) → Buf (Elt Ideal) ℓ) (c : Dev nD) :
    Cert.KernelIdeal.Gen.V m c main_v2
      = shapeCast S1x1024 (show S1024.Idx → EReal from m ((c : Thread nD τ).loc main_arg2))
          Cert.KernelIdeal.Gen.shapeCasts_S1024_S1x1024 := by
  unfold Cert.KernelIdeal.Gen.V
  after_results
  rfl

/-- An array without its leading axis of one, at an index. -/
theorem drop_lead (v : S1x1024x1024.Idx → EReal) (h : S1x1024x1024.ShapeCasts S1024x1024) (a b : Fin 1024) :
    shapeCast S1024x1024 v h (ix2 a b) = v (ix3 0 a b) := by
  pointwise

/-- An array with a leading axis of one added, at an index. -/
theorem add_lead (v : S1024.Idx → EReal) (h : S1024.ShapeCasts S1x1024) (b : Fin 1024) :
    shapeCast S1x1024 v h (ix2 0 b) = v (ix1 b) := by
  pointwise

/-- A device's partial sums are its first argument. -/
theorem given_part (m : (ℓ : Loc nD τ sig) → Buf (Elt Ideal) ℓ) (c : Dev nD) (a b : Fin 1024) :
    (given (F := Ideal) m).P c (ix2 a b)
      = (show S1x1024x1024.Idx → EReal from m ((c : Thread nD τ).loc main_arg0)) (ix3 0 a b) := by
  rw [block_part, V_part]
  exact drop_lead _ _ a b

/-- A device's residual is its second argument. -/
theorem given_residual (m : (ℓ : Loc nD τ sig) → Buf (Elt Ideal) ℓ) (c : Dev nD) :
    (given (F := Ideal) m).R c = m ((c : Thread nD τ).loc main_arg1) :=
  (block_residual m c).trans (Cert.KernelIdeal.Gen.V_main_arg1 m c)

/-- A device's gain is its third argument. -/
theorem given_gain (m : (ℓ : Loc nD τ sig) → Buf (Elt Ideal) ℓ) (c : Dev nD) (b : Fin 1024) :
    (given (F := Ideal) m).G c (ix2 0 b)
      = (show S1024.Idx → EReal from m ((c : Thread nD τ).loc main_arg2)) (ix1 b) := by
  rw [block_gain, V_gain]
  exact add_lead _ _ b

/-- A device's coordinate on the mesh axis that the array is cut along is its place in its ring. -/
theorem along : ∀ c : Dev nD, Layout.meshLin [2, 4, 4] c.val [1] = (pos c).val := by decide +kernel

/-- A device's block of the whole array of partial sums is the slab of its place in its ring. -/
theorem block_apply (c : Dev nD) (A : (⟨3, ![4, 1024, 1024]⟩ : Shape).Idx → EReal) (a b : Fin 1024) :
    (Layout.blockN ⟨3, ![1, 1024, 1024]⟩ ⟨3, ![4, 1024, 1024]⟩ (Layout.meshBlock [2, 4, 4] ![[1], [], []] c) A : (⟨3, ![1, 1024, 1024]⟩ : Shape).Idx → EReal) (ix3 0 a b)
      = A (ix3 (pos c) a b) := by
  rw [Layout.blockN_apply]
  refine congrArg A (funext fun k => ?_)
  match k with
  | 0 => exact Fin.ext (by
      show Layout.meshLin [2, 4, 4] c.val [1] * 1 + 0 = (pos c).val
      rw [along]; omega)
  | 1 => exact Fin.ext (by show 0 * 1024 + a.val = a.val; omega)
  | 2 => exact Fin.ext (by show 0 * 1024 + b.val = b.val; omega)

/-- Element `(a, b)` of chunk `q` is element `(256 q + a, b)` of the array. -/
theorem chunk_apply {α : Type} (X : S1024x1024.Idx → α) (q : Fin 4) (a : Fin 256) (b : Fin 1024) :
    chunk X q (ix2 a b) = X (ix2 ⟨256 * q.val + a.val, by omega⟩ b) := by
  refine congrArg X (funext fun k => ?_)
  match k with
  | 0 => exact Fin.ext (by show 256 * q.val + 1 * a.val = 256 * q.val + a.val; omega)
  | 1 => exact Fin.ext (by show 0 + 1 * b.val = b.val; omega)

/-- A sum taken around the ring, from any place on, is the sum over the four places. -/
theorem sum_around (f : Fin 4 → EReal) : ∀ p : Fin 4, f (p + 1) + f (p + 2) + f (p + 3) + f p = ∑ k : Fin 4, f k := by
  intro p
  rw [Fin.sum_univ_four]
  fin_cases p
  · show f 1 + f 2 + f 3 + f 0 = _; ac_rfl
  · show f 2 + f 3 + f 0 + f 1 = _; ac_rfl
  · show f 3 + f 0 + f 1 + f 2 = _; ac_rfl
  · show f 0 + f 1 + f 2 + f 3 = _; ac_rfl

/-- What has gone around the ring is the sum of the four slabs. -/
theorem sum_apply (D : Data Ideal) (c : Dev nD) (A : (⟨3, ![4, 1024, 1024]⟩ : Shape).Idx → EReal)
    (hA : ∀ d a b, D.P d (ix2 a b) = A (ix3 (pos d) a b)) (a : Fin 256) (b : Fin 1024) :
    (acc2 D c : FVec Ideal S256x1024 .f32) (ix2 a b)
      = ∑ k : Fin 4, A (ix3 k ⟨256 * (pos c).val + a.val, by omega⟩ b) := by
  have e1 : pos c + 3 + 1 = pos c := by generalize pos c = p; revert p; decide
  have e2 : pos c + 3 + 3 + 2 = pos c := by generalize pos c = p; revert p; decide
  have e3 : pos c + 3 + 3 = pos c + 2 := by generalize pos c = p; revert p; decide
  have e4 : pos c + 2 + 3 = pos c + 1 := by generalize pos c = p; revert p; decide
  have e5 : pos c + 2 + 2 = pos c := by generalize pos c = p; revert p; decide
  show chunk (D.P (left (left (left c)))) (pos (left (left c)) + 2) (ix2 a b)
      + chunk (D.P (left (left c))) (pos (left (left c)) + 2) (ix2 a b)
      + chunk (D.P (left c)) (pos (left c) + 1) (ix2 a b) + chunk (D.P c) (pos c) (ix2 a b) = _
  simp only [chunk_apply, hA, pos_left, e1, e2, e3, e4, e5]
  exact sum_around (fun k => A (ix3 k ⟨256 * (pos c).val + a.val, by omega⟩ b)) (pos c)

/-- Multiplying by the reciprocal root of a positive number is dividing by its root, on all extended reals. -/
theorem scale (y g w : EReal) (hw : 0 < w) : y * Ideal.rsqrt w * g = Ideal.div y (Ideal.sqrt w) * g := by
  induction w with
  | bot => exact absurd hw (by simp)
  | top => simp [Ideal.div]
  | coe r =>
    have hr : 0 < r := by exact_mod_cast hw
    have hs : Real.sqrt r ≠ 0 := (Real.sqrt_pos.mpr hr).ne'
    rw [Ideal.sqrt_coe, Ideal.rsqrt_coe, if_neg hr.not_gt, if_neg hr.not_gt, if_neg hr.ne', Ideal.div_coe hs, one_div]

/-- A square of an extended real is not negative. -/
theorem square_nonneg (x : EReal) : 0 ≤ x * x := by
  induction x with
  | bot => simp
  | top => simp
  | coe r => exact_mod_cast mul_self_nonneg r

/-- The literal that the sum of squares is divided by is 1024. -/
theorem width_eq : Ideal.ofBits .f32 0x44800000#32 = ((1024 : ℝ) : EReal) := by
  simp [Ideal.ofBits, Ideal.ieee, -EReal.coe_mul]; norm_num

/-- The small constant is positive. -/
theorem eps_pos : 0 < Ideal.ofBits .f32 0x358637BD#32 := by
  simp [Ideal.ofBits, Ideal.ieee, -EReal.coe_mul]

/-- The mean of squares plus the small constant is positive, whatever the elements are. -/
theorem mean_pos {n : ℕ} (f : Fin n → EReal) :
    0 < Ideal.div (∑ k, f k * f k) (Ideal.ofBits .f32 0x44800000#32) + Ideal.ofBits .f32 0x358637BD#32 := by
  have h : 0 ≤ Ideal.div (∑ k, f k * f k) (Ideal.ofBits .f32 0x44800000#32) := by
    rw [width_eq, Ideal.div_coe (by norm_num)]
    exact mul_nonneg (Finset.sum_nonneg fun k _ => square_nonneg (f k)) (by exact_mod_cast (by norm_num : (0 : ℝ) ≤ 1 / 1024))
  exact lt_of_lt_of_le eps_pos (le_add_of_nonneg_left h)

/-- A chunk with a leading axis of one added, at an index. -/
theorem lift_apply (v : S256x1024.Idx → EReal) (h : S256x1024.ShapeCasts S1x256x1024) (a : Fin 256) (b : Fin 1024) :
    shapeCast S1x256x1024 v h (ix3 0 a b) = v (ix2 a b) := by
  pointwise

/-- One element of chunk `q` of the kernel's result, in the reference's form. -/
theorem fin_apply (D : Data Ideal) (c : Dev nD) (q : Fin 4) (A : (⟨3, ![4, 1024, 1024]⟩ : Shape).Idx → EReal)
    (R : S1024x1024.Idx → EReal) (g : S1024.Idx → EReal)
    (hA : ∀ d a b, D.P d (ix2 a b) = A (ix3 (pos d) a b)) (hR : ∀ d, D.R d = R) (hG : ∀ d b, D.G d (ix2 0 b) = g (ix1 b))
    (a : Fin 256) (b : Fin 1024) (r : Fin 1024) (hr : r = ⟨256 * q.val + a.val, by omega⟩) :
    (fin D c q : FVec Ideal S256x1024 .f32) (ix2 a b)
      = Ideal.div ((∑ k : Fin 4, A (ix3 k r b)) + R (ix2 r b))
          (Ideal.sqrt (Ideal.div (∑ l : Fin 1024, ((∑ k : Fin 4, A (ix3 k r l)) + R (ix2 r l)) * ((∑ k : Fin 4, A (ix3 k r l)) + R (ix2 r l)))
            (Ideal.ofBits .f32 0x44800000#32) + Ideal.ofBits .f32 0x358637BD#32)) * g (ix1 b) := by
  subst hr
  unfold fin own
  rw [own_apply]
  simp only [lift_apply, sum_apply D _ A hA, chunk_apply, hR, hG, pos_mate]
  exact scale _ _ _ (mean_pos _)

end Cert.RingNorm
-- ==== Proof.Ref.lean ====
/- What the reference is on the extended reals, element by element. -/
module

public import proofs.«01_k».proof.Proof.Gen.ReferenceIdeal.Run
public import Idealize.ShloMosaic.Lib.Pointwise.Tactic
public import Idealize.ShloMosaic.Lib.Pointwise.Reduce

@[expose] public section

namespace Cert.RingNorm

open Idealize.ShloMosaic Idealize.SL.Sem Cert.ReferenceIdeal Cert.ReferenceIdeal.Gen

/-- What the reference computes from whole arrays: the sum over the first axis plus the residual, divided by the
    root of its row's mean square plus a small constant, times the gain. -/
noncomputable def plain (A : FVec Ideal S4x1024x1024 .f32) (R : FVec Ideal S1024x1024 .f32) (g : FVec Ideal S1024 .f32) :
    FVec Ideal S1024x1024 .f32 :=
  mulf (Host.divf (addf (Host.reduceAdd A (constant S_ .f32 0x00000000#32) reducesTo_S4x1024x1024_S1024x1024_d0 h_S_) R) (broadcastInDim S1024x1024 ![0, 1] bcast_S1024x1_S1024x1024_0_1 (Host.sqrt (addf (Host.divf (broadcastInDim S1024x1 ![0] bcast_S1024_S1024x1_0 (Host.reduceAdd (mulf (addf (Host.reduceAdd A (constant S_ .f32 0x00000000#32) reducesTo_S4x1024x1024_S1024x1024_d0 h_S_) R) (addf (Host.reduceAdd A (constant S_ .f32 0x00000000#32) reducesTo_S4x1024x1024_S1024x1024_d0 h_S_) R)) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x358637BD#32)))))) (broadcastInDim S1024x1024 ![0, 1] bcast_S1x1024_S1024x1024_0_1 (broadcastInDim S1x1024 ![1] bcast_S1024_S1x1024_1 g))

/-- One element of it. -/
theorem plain_apply (A : FVec Ideal S4x1024x1024 .f32) (R : FVec Ideal S1024x1024 .f32) (g : FVec Ideal S1024 .f32) (a b : Fin 1024) :
    plain A R g (ix2 a b)
      = Ideal.div ((∑ k : Fin 4, A (ix3 k a b)) + R (ix2 a b))
          (Ideal.sqrt (Ideal.div (∑ l : Fin 1024, ((∑ k : Fin 4, A (ix3 k a l)) + R (ix2 a l)) * ((∑ k : Fin 4, A (ix3 k a l)) + R (ix2 a l)))
            (Ideal.ofBits .f32 0x44800000#32) + Ideal.ofBits .f32 0x358637BD#32)) * g (ix1 b) := by
  unfold plain
  pointwise

end Cert.RingNorm
-- ==== Proof.Value.lean ====
/- The kernel's result is the reference's: on the extended reals, and from the same arguments. -/
module

public import proofs.«01_k».proof.Defs
public import proofs.«01_k».proof.Proof.Norm
public import proofs.«01_k».proof.Proof.Ref

@[expose] public section

namespace Cert.RingNorm

open Idealize.ShloMosaic Idealize.ShloMosaic.TcCoe Idealize.SL.Sem Cert.KernelIdeal

/-- When every device holds its block of `A`, and all of them the same `R` and `g`, what the ring leaves on each device is
    the reference's array. -/
theorem out_eq (m : (ℓ : Loc nD τ sig) → Buf (Elt Ideal) ℓ) (A : (⟨3, ![4, 1024, 1024]⟩ : Shape).Idx → EReal)
    (R : S1024x1024.Idx → EReal) (g : S1024.Idx → EReal)
    (h : ∀ c : Dev nD, m ((c : Thread nD τ).loc main_arg0)
          = Layout.blockN ⟨3, ![1, 1024, 1024]⟩ ⟨3, ![4, 1024, 1024]⟩ (Layout.meshBlock [2, 4, 4] ![[1], [], []] c) A
        ∧ m ((c : Thread nD τ).loc main_arg1) = R ∧ m ((c : Thread nD τ).loc main_arg2) = g) (c : Dev nD) :
    out (given (F := Ideal) m) c = plain A R g := by
  have hA : ∀ (d : Dev nD) (a b : Fin 1024), (given (F := Ideal) m).P d (ix2 a b) = A (ix3 (pos d) a b) := fun d a b =>
    (given_part m d a b).trans ((congrFun (h d).1 _).trans (block_apply d A a b))
  have hR : ∀ d : Dev nD, (given (F := Ideal) m).R d = R := fun d => (given_residual m d).trans (h d).2.1
  have hG : ∀ (d : Dev nD) (b : Fin 1024), (given (F := Ideal) m).G d (ix2 0 b) = g (ix1 b) := fun d b =>
    (given_gain m d b).trans (congrFun (h d).2.2 _)
  have hc : fin (given (F := Ideal) m) c = chunk (plain A R g) := by
    funext q j
    obtain ⟨a, b, rfl⟩ : ∃ (a : Fin 256) (b : Fin 1024), j = ix2 a b := ⟨_, _, eq_ix2 j⟩
    rw [chunk_apply, plain_apply]
    exact fin_apply _ c q A R g hA hR hG a b _ rfl
  unfold out
  rw [hc]
  exact glue_chunk _

end Cert.RingNorm
-- ==== Proof.lean ====
/- The five claims: both readings of the kernel and the reference end cleanly, the idealized kernel is the kernel, and kernel
   and reference compute the same array over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem Cert.Kernel

section

set_option maxRecDepth 65536
local instance : Cert.Kernel.Facts := Cert.Kernel.Gen.facts
local instance : Cert.KernelIdeal.Facts := Cert.KernelIdeal.Gen.facts

/-- The two programs' tables of kernel bodies are one table: one label, with the same body. -/
theorem table_eq : Cert.Kernel.defs₀ (F := Bits) = Cert.KernelIdeal.defs₀ (F := Bits) :=
  congrArg Defs.onTc (funext fun l => funext fun x => match l, x with
    | 0, (_, _) => rfl
    | ⟨_ + 1, h⟩, _ => absurd h (Nat.not_lt.2 (Nat.le_add_left _ _)))

/-- So are their tables with the pipeline's bodies added. -/
theorem defs_eq : Cert.Kernel.defs (F := Bits) = Cert.KernelIdeal.defs (F := Bits) :=
  congrArg (Pipeline.defs (Cert.KernelIdeal.pcfgs (F := Bits))) table_eq

/-- The idealized program, read on bit patterns, ends with its arguments unchanged and every counter at zero. -/
theorem frame_bits (m) (ρ) :
    θ_run (Cert.KernelIdeal.defs (F := Bits)) (onTc (τ := Cert.KernelIdeal.τ) (Cert.KernelIdeal.main (F := Bits)))
      ⟨m, fun _ => 0, ρ⟩ (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
            = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => ⟨(h.1 c).1, (h.1 c).2.1, (h.1 c).2.2.1⟩, h.2⟩)
    (Cert.RingNorm.run_main (F := Bits) m ρ)

/-- The kernel on bit patterns ends with its arguments unchanged and every counter at zero: its text is the idealized
    program's. -/
theorem frame_kernel : Cert.quiescent_Kernel (hKernel := Cert.Kernel.Gen.facts) := fun m ρ _ => by
  rw [defs_eq]
  exact frame_bits m ρ

end

/-- The same of the idealized kernel: the run at the extended reals. -/
theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1, (h.1 c).2.2.1⟩, h.2⟩)
    (Cert.RingNorm.run_main (F := Ideal) m ρ)

/-- The reference ends with its arguments unchanged; it has no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From the same arguments, the idealized kernel leaves on every device the array the idealized reference computes. -/
theorem algebraic : Cert.algebraic_KernelIdeal_ReferenceIdeal (hKernelIdeal := Cert.KernelIdeal.Gen.facts)
    (hReferenceIdeal := Cert.ReferenceIdeal.Gen.facts) := fun m g m' g' _ hagree =>
  ⟨Cert.RingNorm.plain _ _ _,
    (θ_run Cert.KernelIdeal.defs _ _).mono (fun _ h c =>
      ⟨(h.1 c).2.2.2.trans (Cert.RingNorm.out_eq m _ _ _ hagree c), (h.1 c).1, (h.1 c).2.1, (h.1 c).2.2.1⟩)
      (Cert.RingNorm.run_main (F := Ideal) m g),
    (θ_run Cert.ReferenceIdeal.defs _ _).mono (fun _ h => h 0) (Cert.ReferenceIdeal.Value.run (F := Ideal) m' g')⟩

/-- All five claims. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
